-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11)
      ∧ r.2.mem ((c.tc : Thread Cert.Project.nD Cert.Project.τ).loc Cert.Project.main_arg12) = m ((c.tc : Thread Cert.Project.nD Cert.Project.τ).loc Cert.Project.main_arg12)
      ∧ r.2.mem ((c.tc : Thread Cert.Project.nD Cert.Project.τ).loc Cert.Project.main_arg13) = m ((c.tc : Thread Cert.Project.nD Cert.Project.τ).loc Cert.Project.main_arg13)
      ∧ r.2.mem ((c.tc : Thread Cert.Project.nD Cert.Project.τ).loc Cert.Project.main_arg14) = m ((c.tc : Thread Cert.Project.nD Cert.Project.τ).loc Cert.Project.main_arg14)
      ∧ r.2.mem ((c.tc : Thread Cert.Project.nD Cert.Project.τ).loc Cert.Project.main_arg15) = m ((c.tc : Thread Cert.Project.nD Cert.Project.τ).loc Cert.Project.main_arg15))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
      ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12)
      ∧ r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13)
      ∧ r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14)
      ∧ r.2.mem ((c.tc : Thread Cert.ProjectIdeal.nD Cert.ProjectIdeal.τ).loc Cert.ProjectIdeal.main_arg15) = m ((c.tc : Thread Cert.ProjectIdeal.nD Cert.ProjectIdeal.τ).loc Cert.ProjectIdeal.main_arg15))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9)
      ∧ r.2.mem ((c.tc : Thread Cert.ProjectReferenceIdeal.nD Cert.ProjectReferenceIdeal.τ).loc Cert.ProjectReferenceIdeal.main_arg10) = m ((c.tc : Thread Cert.ProjectReferenceIdeal.nD Cert.ProjectReferenceIdeal.τ).loc Cert.ProjectReferenceIdeal.main_arg10)
      ∧ r.2.mem ((c.tc : Thread Cert.ProjectReferenceIdeal.nD Cert.ProjectReferenceIdeal.τ).loc Cert.ProjectReferenceIdeal.main_arg11) = m ((c.tc : Thread Cert.ProjectReferenceIdeal.nD Cert.ProjectReferenceIdeal.τ).loc Cert.ProjectReferenceIdeal.main_arg11)
      ∧ r.2.mem ((c.tc : Thread Cert.ProjectReferenceIdeal.nD Cert.ProjectReferenceIdeal.τ).loc Cert.ProjectReferenceIdeal.main_arg12) = m ((c.tc : Thread Cert.ProjectReferenceIdeal.nD Cert.ProjectReferenceIdeal.τ).loc Cert.ProjectReferenceIdeal.main_arg12)
      ∧ r.2.mem ((c.tc : Thread Cert.ProjectReferenceIdeal.nD Cert.ProjectReferenceIdeal.τ).loc Cert.ProjectReferenceIdeal.main_arg13) = m ((c.tc : Thread Cert.ProjectReferenceIdeal.nD Cert.ProjectReferenceIdeal.τ).loc Cert.ProjectReferenceIdeal.main_arg13)
      ∧ r.2.mem ((c.tc : Thread Cert.ProjectReferenceIdeal.nD Cert.ProjectReferenceIdeal.τ).loc Cert.ProjectReferenceIdeal.main_arg14) = m ((c.tc : Thread Cert.ProjectReferenceIdeal.nD Cert.ProjectReferenceIdeal.τ).loc Cert.ProjectReferenceIdeal.main_arg14)
      ∧ r.2.mem ((c.tc : Thread Cert.ProjectReferenceIdeal.nD Cert.ProjectReferenceIdeal.τ).loc Cert.ProjectReferenceIdeal.main_arg15) = m ((c.tc : Thread Cert.ProjectReferenceIdeal.nD Cert.ProjectReferenceIdeal.τ).loc Cert.ProjectReferenceIdeal.main_arg15))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4))
      ∧ r.2.sem = fun _ => 0)

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)
      ∧ m' ((c.tc : Thread Cert.ProjectReferenceIdeal.nD Cert.ProjectReferenceIdeal.τ).loc Cert.ProjectReferenceIdeal.main_arg10) = m ((c.tc : Thread Cert.ProjectIdeal.nD Cert.ProjectIdeal.τ).loc Cert.ProjectIdeal.main_arg10)
      ∧ m' ((c.tc : Thread Cert.ProjectReferenceIdeal.nD Cert.ProjectReferenceIdeal.τ).loc Cert.ProjectReferenceIdeal.main_arg11) = m ((c.tc : Thread Cert.ProjectIdeal.nD Cert.ProjectIdeal.τ).loc Cert.ProjectIdeal.main_arg11)
      ∧ m' ((c.tc : Thread Cert.ProjectReferenceIdeal.nD Cert.ProjectReferenceIdeal.τ).loc Cert.ProjectReferenceIdeal.main_arg12) = m ((c.tc : Thread Cert.ProjectIdeal.nD Cert.ProjectIdeal.τ).loc Cert.ProjectIdeal.main_arg12)
      ∧ m' ((c.tc : Thread Cert.ProjectReferenceIdeal.nD Cert.ProjectReferenceIdeal.τ).loc Cert.ProjectReferenceIdeal.main_arg13) = m ((c.tc : Thread Cert.ProjectIdeal.nD Cert.ProjectIdeal.τ).loc Cert.ProjectIdeal.main_arg13)
      ∧ m' ((c.tc : Thread Cert.ProjectReferenceIdeal.nD Cert.ProjectReferenceIdeal.τ).loc Cert.ProjectReferenceIdeal.main_arg14) = m ((c.tc : Thread Cert.ProjectIdeal.nD Cert.ProjectIdeal.τ).loc Cert.ProjectIdeal.main_arg14)
      ∧ m' ((c.tc : Thread Cert.ProjectReferenceIdeal.nD Cert.ProjectReferenceIdeal.τ).loc Cert.ProjectReferenceIdeal.main_arg15) = m ((c.tc : Thread Cert.ProjectIdeal.nD Cert.ProjectIdeal.τ).loc Cert.ProjectIdeal.main_arg15)) →
    ∃ (v0 : (c : Dev Cert.ProjectIdeal.nD) → Buf (Elt Ideal) ((c.tc : Thread Cert.ProjectIdeal.nD Cert.ProjectIdeal.τ).loc Cert.ProjectIdeal.main_v10_0)) (v1 : (c : Dev Cert.ProjectIdeal.nD) → Buf (Elt Ideal) ((c.tc : Thread Cert.ProjectIdeal.nD Cert.ProjectIdeal.τ).loc Cert.ProjectIdeal.main_v10_1)) (v2 : (c : Dev Cert.ProjectIdeal.nD) → Buf (Elt Ideal) ((c.tc : Thread Cert.ProjectIdeal.nD Cert.ProjectIdeal.τ).loc Cert.ProjectIdeal.main_v10_2)) (v3 : (c : Dev Cert.ProjectIdeal.nD) → Buf (Elt Ideal) ((c.tc : Thread Cert.ProjectIdeal.nD Cert.ProjectIdeal.τ).loc Cert.ProjectIdeal.main_v10_3)) (v4 : (c : Dev Cert.ProjectIdeal.nD) → Buf (Elt Ideal) ((c.tc : Thread Cert.ProjectIdeal.nD Cert.ProjectIdeal.τ).loc Cert.ProjectIdeal.main_v10_5)) (v5 : (c : Dev Cert.ProjectIdeal.nD) → Buf (Elt Ideal) ((c.tc : Thread Cert.ProjectIdeal.nD Cert.ProjectIdeal.τ).loc Cert.ProjectIdeal.main_v10_6)) (v6 : (c : Dev Cert.ProjectIdeal.nD) → Buf (Elt Ideal) ((c.tc : Thread Cert.ProjectIdeal.nD Cert.ProjectIdeal.τ).loc Cert.ProjectIdeal.main_v10_7)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v10_0) = v0 c
          ∧ r.2.mem ((c.tc : Thread Cert.ProjectIdeal.nD Cert.ProjectIdeal.τ).loc Cert.ProjectIdeal.main_v10_1) = v1 c
          ∧ r.2.mem ((c.tc : Thread Cert.ProjectIdeal.nD Cert.ProjectIdeal.τ).loc Cert.ProjectIdeal.main_v10_2) = v2 c
          ∧ r.2.mem ((c.tc : Thread Cert.ProjectIdeal.nD Cert.ProjectIdeal.τ).loc Cert.ProjectIdeal.main_v10_3) = v3 c
          ∧ r.2.mem ((c.tc : Thread Cert.ProjectIdeal.nD Cert.ProjectIdeal.τ).loc Cert.ProjectIdeal.main_v10_5) = v4 c
          ∧ r.2.mem ((c.tc : Thread Cert.ProjectIdeal.nD Cert.ProjectIdeal.τ).loc Cert.ProjectIdeal.main_v10_6) = v5 c
          ∧ r.2.mem ((c.tc : Thread Cert.ProjectIdeal.nD Cert.ProjectIdeal.τ).loc Cert.ProjectIdeal.main_v10_7) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
          ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12)
          ∧ r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13)
          ∧ r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14)
          ∧ r.2.mem ((c.tc : Thread Cert.ProjectIdeal.nD Cert.ProjectIdeal.τ).loc Cert.ProjectIdeal.main_arg15) = m ((c.tc : Thread Cert.ProjectIdeal.nD Cert.ProjectIdeal.τ).loc Cert.ProjectIdeal.main_arg15))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v3_0) = v0 c
          ∧ r.2.mem ((c.tc : Thread Cert.ProjectReferenceIdeal.nD Cert.ProjectReferenceIdeal.τ).loc Cert.ProjectReferenceIdeal.main_v3_1) = v1 c
          ∧ r.2.mem ((c.tc : Thread Cert.ProjectReferenceIdeal.nD Cert.ProjectReferenceIdeal.τ).loc Cert.ProjectReferenceIdeal.main_v3_2) = v2 c
          ∧ r.2.mem ((c.tc : Thread Cert.ProjectReferenceIdeal.nD Cert.ProjectReferenceIdeal.τ).loc Cert.ProjectReferenceIdeal.main_v3_3) = v3 c
          ∧ r.2.mem ((c.tc : Thread Cert.ProjectReferenceIdeal.nD Cert.ProjectReferenceIdeal.τ).loc Cert.ProjectReferenceIdeal.main_v3_4) = v4 c
          ∧ r.2.mem ((c.tc : Thread Cert.ProjectReferenceIdeal.nD Cert.ProjectReferenceIdeal.τ).loc Cert.ProjectReferenceIdeal.main_v3_5) = v5 c
          ∧ r.2.mem ((c.tc : Thread Cert.ProjectReferenceIdeal.nD Cert.ProjectReferenceIdeal.τ).loc Cert.ProjectReferenceIdeal.main_v3_6) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9)
          ∧ r.2.mem ((c.tc : Thread Cert.ProjectReferenceIdeal.nD Cert.ProjectReferenceIdeal.τ).loc Cert.ProjectReferenceIdeal.main_arg10) = m' ((c.tc : Thread Cert.ProjectReferenceIdeal.nD Cert.ProjectReferenceIdeal.τ).loc Cert.ProjectReferenceIdeal.main_arg10)
          ∧ r.2.mem ((c.tc : Thread Cert.ProjectReferenceIdeal.nD Cert.ProjectReferenceIdeal.τ).loc Cert.ProjectReferenceIdeal.main_arg11) = m' ((c.tc : Thread Cert.ProjectReferenceIdeal.nD Cert.ProjectReferenceIdeal.τ).loc Cert.ProjectReferenceIdeal.main_arg11)
          ∧ r.2.mem ((c.tc : Thread Cert.ProjectReferenceIdeal.nD Cert.ProjectReferenceIdeal.τ).loc Cert.ProjectReferenceIdeal.main_arg12) = m' ((c.tc : Thread Cert.ProjectReferenceIdeal.nD Cert.ProjectReferenceIdeal.τ).loc Cert.ProjectReferenceIdeal.main_arg12)
          ∧ r.2.mem ((c.tc : Thread Cert.ProjectReferenceIdeal.nD Cert.ProjectReferenceIdeal.τ).loc Cert.ProjectReferenceIdeal.main_arg13) = m' ((c.tc : Thread Cert.ProjectReferenceIdeal.nD Cert.ProjectReferenceIdeal.τ).loc Cert.ProjectReferenceIdeal.main_arg13)
          ∧ r.2.mem ((c.tc : Thread Cert.ProjectReferenceIdeal.nD Cert.ProjectReferenceIdeal.τ).loc Cert.ProjectReferenceIdeal.main_arg14) = m' ((c.tc : Thread Cert.ProjectReferenceIdeal.nD Cert.ProjectReferenceIdeal.τ).loc Cert.ProjectReferenceIdeal.main_arg14)
          ∧ r.2.mem ((c.tc : Thread Cert.ProjectReferenceIdeal.nD Cert.ProjectReferenceIdeal.τ).loc Cert.ProjectReferenceIdeal.main_arg15) = m' ((c.tc : Thread Cert.ProjectReferenceIdeal.nD Cert.ProjectReferenceIdeal.τ).loc Cert.ProjectReferenceIdeal.main_arg15))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)) →
    ∃ (v0 : (c : Dev Cert.OutputIdeal.nD) → Buf (Elt Ideal) ((c.tc : Thread Cert.OutputIdeal.nD Cert.OutputIdeal.τ).loc Cert.OutputIdeal.main_v2_0)) (v1 : (c : Dev Cert.OutputIdeal.nD) → Buf (Elt Ideal) ((c.tc : Thread Cert.OutputIdeal.nD Cert.OutputIdeal.τ).loc Cert.OutputIdeal.main_v2_1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v2_0) = v0 c
          ∧ r.2.mem ((c.tc : Thread Cert.OutputIdeal.nD Cert.OutputIdeal.τ).loc Cert.OutputIdeal.main_v2_1) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v0_0) = v0 c
          ∧ r.2.mem ((c.tc : Thread Cert.OutputReferenceIdeal.nD Cert.OutputReferenceIdeal.τ).loc Cert.OutputReferenceIdeal.main_v0_1) = v1 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4))

def Claim : Prop :=
  ∃ (hProject : Cert.Project.Facts) (hProjectIdeal : Cert.ProjectIdeal.Facts) (hProjectReferenceIdeal : Cert.ProjectReferenceIdeal.Facts) (hOutput : Cert.Output.Facts) (hOutputIdeal : Cert.OutputIdeal.Facts) (hOutputReferenceIdeal : Cert.OutputReferenceIdeal.Facts),
    quiescent_Project (hProject := hProject)
    ∧ quiescent_ProjectIdeal (hProjectIdeal := hProjectIdeal)
    ∧ quiescent_ProjectReferenceIdeal (hProjectReferenceIdeal := hProjectReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ preserves_Project_ProjectIdeal
    ∧ algebraic_ProjectIdeal_ProjectReferenceIdeal (hProjectIdeal := hProjectIdeal) (hProjectReferenceIdeal := hProjectReferenceIdeal)
    ∧ preserves_Output_OutputIdeal
    ∧ algebraic_OutputIdeal_OutputReferenceIdeal (hOutputIdeal := hOutputIdeal) (hOutputReferenceIdeal := hOutputReferenceIdeal)
-- ==== Project.lean ====
abbrev S2x1024x2048 : Shape := ⟨3, ![2, 1024, 2048]⟩
abbrev S1536x2048 : Shape := ⟨2, ![1536, 2048]⟩
abbrev S1536x64 : Shape := ⟨2, ![1536, 64]⟩
abbrev S3072x2048 : Shape := ⟨2, ![3072, 2048]⟩
abbrev S3072x64 : Shape := ⟨2, ![3072, 64]⟩
abbrev S6x2048 : Shape := ⟨2, ![6, 2048]⟩
abbrev S6x64 : Shape := ⟨2, ![6, 64]⟩
abbrev S1536x4 : Shape := ⟨2, ![1536, 4]⟩
abbrev S3072x4 : Shape := ⟨2, ![3072, 4]⟩
abbrev S2048x2048 : Shape := ⟨2, ![2048, 2048]⟩
abbrev S_ : Shape := ⟨0, ![]⟩
abbrev S52x2048 : Shape := ⟨2, ![52, 2048]⟩
abbrev S128x2048 : Shape := ⟨2, ![128, 2048]⟩
abbrev S52x64 : Shape := ⟨2, ![52, 64]⟩
abbrev S128x64 : Shape := ⟨2, ![128, 64]⟩
abbrev S4x1536 : Shape := ⟨2, ![4, 1536]⟩
abbrev S4x3072 : Shape := ⟨2, ![4, 3072]⟩
abbrev S2048x1536 : Shape := ⟨2, ![2048, 1536]⟩
abbrev S2048x3072 : Shape := ⟨2, ![2048, 3072]⟩
abbrev S2048x128 : Shape := ⟨2, ![2048, 128]⟩
abbrev S2x3x1536 : Shape := ⟨3, ![2, 3, 1536]⟩
abbrev S2x3x3072 : Shape := ⟨3, ![2, 3, 3072]⟩
abbrev S256x2048 : Shape := ⟨2, ![256, 2048]⟩
abbrev S256x64 : Shape := ⟨2, ![256, 64]⟩
abbrev S512x2048 : Shape := ⟨2, ![512, 2048]⟩
abbrev S512x64 : Shape := ⟨2, ![512, 64]⟩
abbrev S4x256 : Shape := ⟨2, ![4, 256]⟩
abbrev S4x512 : Shape := ⟨2, ![4, 512]⟩
abbrev S2048x256 : Shape := ⟨2, ![2048, 256]⟩
abbrev S2048x512 : Shape := ⟨2, ![2048, 512]⟩
abbrev S2x3x256 : Shape := ⟨3, ![2, 3, 256]⟩
abbrev S2x3x512 : Shape := ⟨3, ![2, 3, 512]⟩
abbrev S8x2064x128 : Shape := ⟨3, ![8, 2064, 128]⟩
abbrev S512x128 : Shape := ⟨2, ![512, 128]⟩
abbrev S256x128 : Shape := ⟨2, ![256, 128]⟩
abbrev S256x128x1 : Shape := ⟨3, ![256, 128, 1]⟩
abbrev S512x128x1 : Shape := ⟨3, ![512, 128, 1]⟩
abbrev S128x128 : Shape := ⟨2, ![128, 128]⟩
abbrev S128x128x1 : Shape := ⟨3, ![128, 128, 1]⟩
abbrev S8x128 : Shape := ⟨2, ![8, 128]⟩
abbrev S1x8x128 : Shape := ⟨3, ![1, 8, 128]⟩
abbrev S512x512 : Shape := ⟨2, ![512, 512]⟩
abbrev S1x512x128 : Shape := ⟨3, ![1, 512, 128]⟩
abbrev S4x128 : Shape := ⟨2, ![4, 128]⟩
abbrev S1x128 : Shape := ⟨2, ![1, 128]⟩
abbrev S512 : Shape := ⟨1, ![512]⟩
abbrev S512x1 : Shape := ⟨2, ![512, 1]⟩
abbrev S1x3x128 : Shape := ⟨3, ![1, 3, 128]⟩
abbrev S3x128 : Shape := ⟨2, ![3, 128]⟩

abbrev nBuf : Space → Nat
  | .hbm => 36
  | .vmem => 43
  | .smem => 0
  | _ => 0

abbrev bufTy : (tb : Table) → Fin (tcTables nBuf tb) → BufTy
  | .hbm, ⟨0, _⟩ => ⟨S2x1024x2048, .bf16⟩
  | .hbm, ⟨1, _⟩ => ⟨S1536x2048, .fp8e4m3⟩
  | .hbm, ⟨2, _⟩ => ⟨S1536x64, .i8⟩
  | .hbm, ⟨3, _⟩ => ⟨S1536x2048, .fp8e4m3⟩
  | .hbm, ⟨4, _⟩ => ⟨S1536x64, .i8⟩
  | .hbm, ⟨5, _⟩ => ⟨S3072x2048, .fp8e4m3⟩
  | .hbm, ⟨6, _⟩ => ⟨S3072x64, .i8⟩
  | .hbm, ⟨7, _⟩ => ⟨S3072x2048, .fp8e4m3⟩
  | .hbm, ⟨8, _⟩ => ⟨S3072x64, .i8⟩
  | .hbm, ⟨9, _⟩ => ⟨S6x2048, .fp8e4m3⟩
  | .hbm, ⟨10, _⟩ => ⟨S6x64, .i8⟩
  | .hbm, ⟨11, _⟩ => ⟨S6x2048, .fp8e4m3⟩
  | .hbm, ⟨12, _⟩ => ⟨S6x64, .i8⟩
  | .hbm, ⟨13, _⟩ => ⟨S1536x4, .f32⟩
  | .hbm, ⟨14, _⟩ => ⟨S1536x4, .f32⟩
  | .hbm, ⟨15, _⟩ => ⟨S3072x4, .f32⟩
  | .hbm, ⟨16, _⟩ => ⟨S2048x2048, .bf16⟩
  | .hbm, ⟨17, _⟩ => ⟨S_, .i8⟩
  | .hbm, ⟨18, _⟩ => ⟨S52x2048, .i8⟩
  | .hbm, ⟨19, _⟩ => ⟨S52x2048, .fp8e4m3⟩
  | .hbm, ⟨20, _⟩ => ⟨S128x2048, .fp8e4m3⟩
  | .hbm, ⟨21, _⟩ => ⟨S_, .i8⟩
  | .hbm, ⟨22, _⟩ => ⟨S52x64, .i8⟩
  | .hbm, ⟨23, _⟩ => ⟨S52x64, .i8⟩
  | .hbm, ⟨24, _⟩ => ⟨S128x64, .i8⟩
  | .hbm, ⟨25, _⟩ => ⟨S4x1536, .f32⟩
  | .hbm, ⟨26, _⟩ => ⟨S4x1536, .f32⟩
  | .hbm, ⟨27, _⟩ => ⟨S4x3072, .f32⟩
  | .hbm, ⟨28, _⟩ => ⟨S2048x1536, .bf16⟩
  | .hbm, ⟨29, _⟩ => ⟨S2048x1536, .bf16⟩
  | .hbm, ⟨30, _⟩ => ⟨S2048x3072, .bf16⟩
  | .hbm, ⟨31, _⟩ => ⟨S2048x3072, .bf16⟩
  | .hbm, ⟨32, _⟩ => ⟨S2048x128, .f32⟩
  | .hbm, ⟨33, _⟩ => ⟨S2x3x1536, .bf16⟩
  | .hbm, ⟨34, _⟩ => ⟨S2x3x1536, .bf16⟩
  | .hbm, ⟨35, _⟩ => ⟨S2x3x3072, .bf16⟩
  | .local _ .vmem, ⟨0, _⟩ => ⟨S2048x2048, .bf16⟩
  | .local _ .vmem, ⟨1, _⟩ => ⟨S256x2048, .fp8e4m3⟩
  | .local _ .vmem, ⟨2, _⟩ => ⟨S256x2048, .fp8e4m3⟩
  | .local _ .vmem, ⟨3, _⟩ => ⟨S256x64, .i8⟩
  | .local _ .vmem, ⟨4, _⟩ => ⟨S256x64, .i8⟩
  | .local _ .vmem, ⟨5, _⟩ => ⟨S256x2048, .fp8e4m3⟩
  | .local _ .vmem, ⟨6, _⟩ => ⟨S256x2048, .fp8e4m3⟩
  | .local _ .vmem, ⟨7, _⟩ => ⟨S256x64, .i8⟩
  | .local _ .vmem, ⟨8, _⟩ => ⟨S256x64, .i8⟩
  | .local _ .vmem, ⟨9, _⟩ => ⟨S512x2048, .fp8e4m3⟩
  | .local _ .vmem, ⟨10, _⟩ => ⟨S512x2048, .fp8e4m3⟩
  | .local _ .vmem, ⟨11, _⟩ => ⟨S512x64, .i8⟩
  | .local _ .vmem, ⟨12, _⟩ => ⟨S512x64, .i8⟩
  | .local _ .vmem, ⟨13, _⟩ => ⟨S512x2048, .fp8e4m3⟩
  | .local _ .vmem, ⟨14, _⟩ => ⟨S512x2048, .fp8e4m3⟩
  | .local _ .vmem, ⟨15, _⟩ => ⟨S512x64, .i8⟩
  | .local _ .vmem, ⟨16, _⟩ => ⟨S512x64, .i8⟩
  | .local _ .vmem, ⟨17, _⟩ => ⟨S128x2048, .fp8e4m3⟩
  | .local _ .vmem, ⟨18, _⟩ => ⟨S128x64, .i8⟩
  | .local _ .vmem, ⟨19, _⟩ => ⟨S4x256, .f32⟩
  | .local _ .vmem, ⟨20, _⟩ => ⟨S4x256, .f32⟩
  | .local _ .vmem, ⟨21, _⟩ => ⟨S4x256, .f32⟩
  | .local _ .vmem, ⟨22, _⟩ => ⟨S4x256, .f32⟩
  | .local _ .vmem, ⟨23, _⟩ => ⟨S4x512, .f32⟩
  | .local _ .vmem, ⟨24, _⟩ => ⟨S4x512, .f32⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x512, .bf16⟩
  | .local _ .vmem, ⟨30, _⟩ => ⟨S2048x512, .bf16⟩
  | .local _ .vmem, ⟨31, _⟩ => ⟨S2048x512, .bf16⟩
  | .local _ .vmem, ⟨32, _⟩ => ⟨S2048x512, .bf16⟩
  | .local _ .vmem, ⟨33, _⟩ => ⟨S2048x128, .f32⟩
  | .local _ .vmem, ⟨34, _⟩ => ⟨S2x3x256, .bf16⟩
  | .local _ .vmem, ⟨35, _⟩ => ⟨S2x3x256, .bf16⟩
  | .local _ .vmem, ⟨36, _⟩ => ⟨S2x3x256, .bf16⟩
  | .local _ .vmem, ⟨37, _⟩ => ⟨S2x3x256, .bf16⟩
  | .local _ .vmem, ⟨38, _⟩ => ⟨S2x3x512, .bf16⟩
  | .local _ .vmem, ⟨39, _⟩ => ⟨S2x3x512, .bf16⟩
  | .local _ .vmem, ⟨40, _⟩ => ⟨S1536x2048, .bf16⟩
  | .local _ .vmem, ⟨41, _⟩ => ⟨S128x2048, .bf16⟩
  | .local _ .vmem, ⟨42, _⟩ => ⟨S8x2064x128, .f32⟩
  | _, _ => ⟨S2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev main_v10_3 : Ref sig .tc := ⟨.hbm, 31, rfl⟩
abbrev main_v10_4 : Ref sig .tc := ⟨.hbm, 32, rfl⟩
abbrev main_v10_5 : Ref sig .tc := ⟨.hbm, 33, rfl⟩
abbrev main_v10_6 : Ref sig .tc := ⟨.hbm, 34, rfl⟩
abbrev main_v10_7 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S2048x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2x3x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x3x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x3x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjectReferenceIdeal.lean ====
abbrev S2x1024x2048 : Shape := ⟨3, ![2, 1024, 2048]⟩
abbrev S1536x2048 : Shape := ⟨2, ![1536, 2048]⟩
abbrev S1536x64 : Shape := ⟨2, ![1536, 64]⟩
abbrev S3072x2048 : Shape := ⟨2, ![3072, 2048]⟩
abbrev S3072x64 : Shape := ⟨2, ![3072, 64]⟩
abbrev S6x2048 : Shape := ⟨2, ![6, 2048]⟩
abbrev S6x64 : Shape := ⟨2, ![6, 64]⟩
abbrev S1536x4 : Shape := ⟨2, ![1536, 4]⟩
abbrev S3072x4 : Shape := ⟨2, ![3072, 4]⟩
abbrev S4x1536 : Shape := ⟨2, ![4, 1536]⟩
abbrev S4x3072 : Shape := ⟨2, ![4, 3072]⟩
abbrev S2048x1536 : Shape := ⟨2, ![2048, 1536]⟩
abbrev S2048x3072 : Shape := ⟨2, ![2048, 3072]⟩
abbrev S2x3x1536 : Shape := ⟨3, ![2, 3, 1536]⟩
abbrev S2x3x3072 : Shape := ⟨3, ![2, 3, 3072]⟩
abbrev S1536x64x32 : Shape := ⟨3, ![1536, 64, 32]⟩
abbrev S1536x64x1 : Shape := ⟨3, ![1536, 64, 1]⟩
abbrev S2048x2048 : Shape := ⟨2, ![2048, 2048]⟩
abbrev S2x1024x1536 : Shape := ⟨3, ![2, 1024, 1536]⟩
abbrev S3072x64x32 : Shape := ⟨3, ![3072, 64, 32]⟩
abbrev S3072x64x1 : Shape := ⟨3, ![3072, 64, 1]⟩
abbrev S2x1024x3072 : Shape := ⟨3, ![2, 1024, 3072]⟩
abbrev S2x1027x1536 : Shape := ⟨3, ![2, 1027, 1536]⟩
abbrev S1x1536 : Shape := ⟨2, ![1, 1536]⟩
abbrev S1x1x1536 : Shape := ⟨3, ![1, 1, 1536]⟩
abbrev S2x1027x3072 : Shape := ⟨3, ![2, 1027, 3072]⟩
abbrev S1x3072 : Shape := ⟨2, ![1, 3072]⟩
abbrev S1x1x3072 : Shape := ⟨3, ![1, 1, 3072]⟩

abbrev nBuf : Space → Nat
  | .hbm => 26
  | .vmem => 19
  | .smem => 0
  | _ => 0

abbrev bufTy : (tb : Table) → Fin (tcTables nBuf tb) → BufTy
  | .hbm, ⟨0, _⟩ => ⟨S2x1024x2048, .bf16⟩
  | .hbm, ⟨1, _⟩ => ⟨S1536x2048, .fp8e4m3⟩
  | .hbm, ⟨2, _⟩ => ⟨S1536x64, .i8⟩
  | .hbm, ⟨3, _⟩ => ⟨S1536x2048, .fp8e4m3⟩
  | .hbm, ⟨4, _⟩ => ⟨S1536x64, .i8⟩
  | .hbm, ⟨5, _⟩ => ⟨S3072x2048, .fp8e4m3⟩
  | .hbm, ⟨6, _⟩ => ⟨S3072x64, .i8⟩
  | .hbm, ⟨7, _⟩ => ⟨S3072x2048, .fp8e4m3⟩
  | .hbm, ⟨8, _⟩ => ⟨S3072x64, .i8⟩
  | .hbm, ⟨9, _⟩ => ⟨S6x2048, .fp8e4m3⟩
  | .hbm, ⟨10, _⟩ => ⟨S6x64, .i8⟩
  | .hbm, ⟨11, _⟩ => ⟨S6x2048, .fp8e4m3⟩
  | .hbm, ⟨12, _⟩ => ⟨S6x64, .i8⟩
  | .hbm, ⟨13, _⟩ => ⟨S1536x4, .f32⟩
  | .hbm, ⟨14, _⟩ => ⟨S1536x4, .f32⟩
  | .hbm, ⟨15, _⟩ => ⟨S3072x4, .f32⟩
  | .hbm, ⟨16, _⟩ => ⟨S4x1536, .f32⟩
  | .hbm, ⟨17, _⟩ => ⟨S4x1536, .f32⟩
  | .hbm, ⟨18, _⟩ => ⟨S4x3072, .f32⟩
  | .hbm, ⟨19, _⟩ => ⟨S2048x1536, .bf16⟩
  | .hbm, ⟨20, _⟩ => ⟨S2048x1536, .bf16⟩
  | .hbm, ⟨21, _⟩ => ⟨S2048x3072, .bf16⟩
  | .hbm, ⟨22, _⟩ => ⟨S2048x3072, .bf16⟩
  | .hbm, ⟨23, _⟩ => ⟨S2x3x1536, .bf16⟩
  | .hbm, ⟨24, _⟩ => ⟨S2x3x1536, .bf16⟩
  | .hbm, ⟨25, _⟩ => ⟨S2x3x3072, .bf16⟩
  | .local _ .vmem, ⟨0, _⟩ => ⟨S2x1024x2048, .bf16⟩
  | .local _ .vmem, ⟨1, _⟩ => ⟨S1536x2048, .fp8e4m3⟩
  | .local _ .vmem, ⟨2, _⟩ => ⟨S1536x64, .i8⟩
  | .local _ .vmem, ⟨3, _⟩ => ⟨S1536x2048, .fp8e4m3⟩
  | .local _ .vmem, ⟨4, _⟩ => ⟨S1536x64, .i8⟩
  | .local _ .vmem, ⟨5, _⟩ => ⟨S3072x2048, .fp8e4m3⟩
  | .local _ .vmem, ⟨6, _⟩ => ⟨S3072x64, .i8⟩
  | .local _ .vmem, ⟨7, _⟩ => ⟨S3072x2048, .fp8e4m3⟩
  | .local _ .vmem, ⟨8, _⟩ => ⟨S3072x64, .i8⟩
  | .local _ .vmem, ⟨9, _⟩ => ⟨S4x1536, .f32⟩
  | .local _ .vmem, ⟨10, _⟩ => ⟨S4x1536, .f32⟩
  | .local _ .vmem, ⟨11, _⟩ => ⟨S4x3072, .f32⟩
  | .local _ .vmem, ⟨12, _⟩ => ⟨S2048x1536, .bf16⟩
  | .local _ .vmem, ⟨13, _⟩ => ⟨S2048x1536, .bf16⟩
  | .local _ .vmem, ⟨14, _⟩ => ⟨S2048x3072, .bf16⟩
  | .local _ .vmem, ⟨15, _⟩ => ⟨S2048x3072, .bf16⟩
  | .local _ .vmem, ⟨16, _⟩ => ⟨S2x3x1536, .bf16⟩
  | .local _ .vmem, ⟨17, _⟩ => ⟨S2x3x1536, .bf16⟩
  | .local _ .vmem, ⟨18, _⟩ => ⟨S2x3x3072, .bf16⟩
  | _, _ => ⟨S2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v3_4 : Ref sig .tc := ⟨.hbm, 23, rfl⟩
abbrev main_v3_5 : Ref sig .tc := ⟨.hbm, 24, rfl⟩
abbrev main_v3_6 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S2x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x64 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x64 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x3072 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x3072 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x1536 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x3x3072 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Output.lean ====
abbrev S2048x3072 : Shape := ⟨2, ![2048, 3072]⟩
abbrev S1x512 : Shape := ⟨2, ![1, 512]⟩
abbrev S2048x96 : Shape := ⟨2, ![2048, 96]⟩
abbrev S2048x6x16 : Shape := ⟨3, ![2048, 6, 16]⟩
abbrev S6x2048x16 : Shape := ⟨3, ![6, 2048, 16]⟩
abbrev S2048x2048 : Shape := ⟨2, ![2048, 2048]⟩
abbrev S2048x512 : Shape := ⟨2, ![2048, 512]⟩
abbrev S1x2048x16 : Shape := ⟨3, ![1, 2048, 16]⟩
abbrev S2048x16 : Shape := ⟨2, ![2048, 16]⟩
abbrev S2048x128 : Shape := ⟨2, ![2048, 128]⟩
abbrev S2048x128x1 : Shape := ⟨3, ![2048, 128, 1]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S1x512, .f32⟩
  | .hbm, ⟨3, _⟩ => ⟨S2048x3072, .fp8e4m3⟩
  | .hbm, ⟨4, _⟩ => ⟨S2048x96, .i8⟩
  | .hbm, ⟨5, _⟩ => ⟨S2048x6x16, .i8⟩
  | .hbm, ⟨6, _⟩ => ⟨S6x2048x16, .i8⟩
  | .hbm, ⟨7, _⟩ => ⟨S2048x3072, .bf16⟩
  | .hbm, ⟨8, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S2048x512, .fp8e4m3⟩
  | .local _ .vmem, ⟨6, _⟩ => ⟨S2048x512, .fp8e4m3⟩
  | .local _ .vmem, ⟨7, _⟩ => ⟨S1x2048x16, .i8⟩
  | .local _ .vmem, ⟨8, _⟩ => ⟨S1x2048x16, .i8⟩
  | .local _ .vmem, ⟨9, _⟩ => ⟨S2048x512, .bf16⟩
  | .local _ .vmem, ⟨10, _⟩ => ⟨S2048x512, .bf16⟩
  | .local _ .vmem, ⟨11, _⟩ => ⟨S2048x2048, .bf16⟩
  | .local _ .vmem, ⟨12, _⟩ => ⟨S2048x512, .bf16⟩
  | .local _ .vmem, ⟨13, _⟩ => ⟨S2048x512, .bf16⟩
  | .local _ .vmem, ⟨14, _⟩ => ⟨S2048x2048, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v355 : BitVec 1 := Scalar.cmpi .eq arg0 c5_i32
  let v356 : BitVec 32 := Scalar.extui v355
  let c0_i32_233 : BitVec 32 := 0#32
  let v357 : BitVec 1 := Scalar.cmpi .ne v356 c0_i32_233
  v357

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x16 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutputReferenceIdeal.lean ====
abbrev S2048x3072 : Shape := ⟨2, ![2048, 3072]⟩
abbrev S1x512 : Shape := ⟨2, ![1, 512]⟩
abbrev S2048x96 : Shape := ⟨2, ![2048, 96]⟩
abbrev S2048x2048 : Shape := ⟨2, ![2048, 2048]⟩
abbrev S2048x96x32 : Shape := ⟨3, ![2048, 96, 32]⟩
abbrev S2048x96x1 : Shape := ⟨3, ![2048, 96, 1]⟩
abbrev S2048x6x512 : Shape := ⟨3, ![2048, 6, 512]⟩
abbrev S2048x6 : Shape := ⟨2, ![2048, 6]⟩
abbrev S2048x6x1 : Shape := ⟨3, ![2048, 6, 1]⟩
abbrev S1x1x512 : Shape := ⟨3, ![1, 1, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S1x512, .f32⟩
  | .hbm, ⟨3, _⟩ => ⟨S2048x3072, .fp8e4m3⟩
  | .hbm, ⟨4, _⟩ => ⟨S2048x96, .i8⟩
  | .hbm, ⟨5, _⟩ => ⟨S2048x3072, .bf16⟩
  | .hbm, ⟨6, _⟩ => ⟨S2048x2048, .bf16⟩
  | .local _ .vmem, ⟨0, _⟩ => ⟨S2048x3072, .bf16⟩
  | .local _ .vmem, ⟨1, _⟩ => ⟨S2048x3072, .bf16⟩
  | .local _ .vmem, ⟨2, _⟩ => ⟨S1x512, .f32⟩
  | .local _ .vmem, ⟨3, _⟩ => ⟨S2048x3072, .fp8e4m3⟩
  | .local _ .vmem, ⟨4, _⟩ => ⟨S2048x96, .i8⟩
  | .local _ .vmem, ⟨5, _⟩ => ⟨S2048x3072, .bf16⟩
  | .local _ .vmem, ⟨6, _⟩ => ⟨S2048x2048, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x96 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Factor.lean ====
module

public import Idealize.ShloMosaic.Lib.Pipeline.ValueKit
public import Idealize.ShloMosaic.Lib.Pointwise

/-! The scale of an MXFP8 block: one byte `b` stands for the factor `2 ^ (b - 127)`.

The kernel shifts the byte into the exponent field of a 32-bit float and reads the bits as a float. The
reference raises two to the power `b - 127`, with byte 0 read as zero and byte 255 as infinity. Both are the
same extended real for every byte. -/

@[expose] public section
set_option maxRecDepth 16384
noncomputable section
namespace Cert.Factor
open Idealize.ShloMosaic

/-- The factor a scale byte stands for, as the kernel forms it: the byte is the exponent field of a float
whose other bits are zero. -/
def mx (b : BitVec 8) : EReal :=
  Ideal.ofBits FTy.f32 (IntOp.shli ArithUnit.vector (BitVec.setWidth 32 b) 23#32)

/-- The fields of the shifted byte: sign zero, exponent the byte, fraction zero. -/
theorem fields (b : BitVec 8) :
    (BitVec.extractLsb' 31 1 (IntOp.shli ArithUnit.vector (BitVec.setWidth 32 b) 23#32) == 1#1) = false
    ∧ (BitVec.extractLsb' 23 8 (IntOp.shli ArithUnit.vector (BitVec.setWidth 32 b) 23#32)).toNat = b.toNat
    ∧ (BitVec.extractLsb' 0 23 (IntOp.shli ArithUnit.vector (BitVec.setWidth 32 b) 23#32)).toNat = 0 := by
  revert b; decide +kernel

/-- The reference's factor of a byte: zero for byte 0, infinity for byte 255, two to the power of the byte
less 127 otherwise. It is the kernel's factor. -/
theorem ref_factor (b : BitVec 8) :
    (Scalar.select (IntOp.cmpi CmpIPredicate.eq (BitVec.setWidth 32 b) 0#32) (0 : EReal)
      (Scalar.select (IntOp.cmpi CmpIPredicate.eq (BitVec.setWidth 32 b) 255#32)
        (Ideal.ofBits FTy.f32 2139095040#32)
        (FloatOps.exp2 (F := Ideal) (φ := FTy.f32)
          (FloatOps.sitofp FTy.f32 (IntOp.subi (BitVec.setWidth 32 b) 127#32))))) = mx b := by
  obtain ⟨h1, h2, h3⟩ := fields b
  have hs : (IntOp.subi (BitVec.setWidth 32 b) 127#32).toInt = (b.toNat : Int) - 127 := by
    clear h1 h2 h3; revert b; decide +kernel
  have e0 : (IntOp.cmpi CmpIPredicate.eq (BitVec.setWidth 32 b) 0#32) = if b.toNat = 0 then 1#1 else 0#1 := by
    clear h1 h2 h3 hs; revert b; decide +kernel
  have e1 : (IntOp.cmpi CmpIPredicate.eq (BitVec.setWidth 32 b) 255#32) = if b.toNat = 255 then 1#1 else 0#1 := by
    clear h1 h2 h3 hs e0; revert b; decide +kernel
  have et : Ideal.ofBits FTy.f32 2139095040#32 = (⊤ : EReal) := by simp [Ideal.ofBits, Ideal.ieee]
  have ex : FloatOps.exp2 (F := Ideal) (φ := FTy.f32)
      (FloatOps.sitofp FTy.f32 (IntOp.subi (BitVec.setWidth 32 b) 127#32))
      = (((2 : ℝ) ^ ((b.toNat : Int) - 127) : ℝ) : EReal) := by
    show Ideal.exp2 (((IntOp.subi (BitVec.setWidth 32 b) 127#32).toInt : ℝ) : EReal) = _
    rw [hs, Ideal.exp2_coe]
    exact congrArg _ (Real.rpow_intCast 2 _)
  have em : mx b = if b.toNat = 255 then ⊤ else if b.toNat = 0 then 0
      else (((2 : ℝ) ^ ((b.toNat : Int) - 127) : ℝ) : EReal) := by
    have key : ((1 : ℝ) * ((2 ^ 23 + 0 : ℕ) : ℝ) * (2 : ℝ) ^ ((b.toNat : Int) - (2 ^ (8 - 1) - 1) - (23 : ℕ)))
        = (2 : ℝ) ^ ((b.toNat : Int) - 127) := by
      rw [show ((b.toNat : Int) - (2 ^ (8 - 1) - 1) - (23 : ℕ)) = ((b.toNat : Int) - 127) - (23 : ℕ) by norm_num,
        zpow_sub₀ (two_ne_zero), zpow_natCast, Nat.add_zero, Nat.cast_pow, Nat.cast_ofNat, one_mul,
        mul_div_cancel₀ _ (pow_ne_zero _ two_ne_zero)]
    unfold mx Ideal.ofBits Ideal.ieee
    simp only [show 8 + 23 = 31 from rfl, h1, h2, h3, Bool.false_eq_true, if_false, if_true, key,
      show 2 ^ 8 - 1 = 255 from rfl, Nat.cast_zero, mul_zero, zero_mul, EReal.coe_zero]
  rw [e0, e1, et, ex, em]
  by_cases z : b.toNat = 0
  · simp [z, Scalar.select]
  · by_cases t : b.toNat = 255 <;> simp [z, t, Scalar.select]

/-- One entry of the gated block: the entry `oc` of a head's row `o`, divided by the root of the row's mean square
(plus the small constant), times the norm weight of its column, times the gate's SiLU. -/
def gated (o nw : Fin 512 → EReal) (g oc : EReal) (c : Fin 512) : EReal :=
  oc * Ideal.rsqrt (Ideal.div (∑ x, o x * o x) (Ideal.ofBits FTy.f32 1140850688#32)
      + Ideal.ofBits FTy.f32 925353388#32) * nw c * (g * Ideal.logistic g)

/-- The same with the SiLU written out by the exponential of zero less the gate. -/
theorem gated_eq (o nw : Fin 512 → EReal) (g oc : EReal) (c : Fin 512) :
    oc * Ideal.rsqrt (Ideal.div (∑ x, o x * o x) (Ideal.ofBits FTy.f32 1140850688#32)
      + Ideal.ofBits FTy.f32 925353388#32) * nw c * (g * Ideal.div 1 (1 + Ideal.exp (0 - g))) = gated o nw g oc c := by
  unfold gated Ideal.logistic
  rw [sub_eq_add_neg, zero_add]

end Cert.Factor
-- ==== Proof.Weight.lean ====
module

public import proofs.«01_k».proof.Proof.Gen.OutputIdeal.Value
public import proofs.«01_k».proof.Proof.Factor

/-! What one 128-column tile of the dequantised output weight holds: each code times the factor of the scale
byte of its group of 32 columns. -/

@[expose] public section
set_option maxRecDepth 16384
noncomputable section
namespace Cert.OutputIdeal.Weight
open Cert.OutputIdeal Cert.OutputIdeal.Gen Idealize.ShloMosaic Idealize.ShloMosaic.TcCoe Idealize.SL.Sem
open Cert.Factor

/-- The eight copies side by side: column `c` of the 128 holds the factor of byte `c mod 16` of the row. -/
theorem factors (b : Vec Ideal S1x2048x16 .i8) (r : Fin 2048) (c : Fin 128) :
    k0_pay4 b (ix2 r c) = mx (b (ix3 0 r ⟨c.val % 16, Nat.mod_lt _ (by decide)⟩)) := by
  pointwise [k0_pay4]
  unfold mx
  split_ifs <;> congr 5 <;> apply Fin.ext <;> simp <;> omega

/-- The lane's group of 32, with the kernel's floor division: lane `c` is in group `c / 32`. -/
theorem group (r : Fin 2048) (c : Fin 128) : k0_pay5 (ix2 r c) = BitVec.ofNat 32 (c.val / 32) := by
  pointwise [k0_pay5]
  revert c; decide +kernel

/-- The first tile: columns 0 to 127 of a head's weight. -/
theorem tile0 (b : Vec Ideal S1x2048x16 .i8) (w : Vec Ideal S2048x128 .fp8e4m3) (r : Fin 2048) (c : Fin 128) :
    k0_pay7 (k0_pay6 b) w (ix2 r c) = w (ix2 r c) * mx (b (ix3 0 r ⟨0 + c.val / 32, by omega⟩)) := by
  pointwise [k0_pay7, k0_pay6]
  rw [factors]; congr 4; apply Fin.ext; simp only [group]
  revert c; decide +kernel

/-- The second tile: columns 128 to 255. -/
theorem tile1 (b : Vec Ideal S1x2048x16 .i8) (w : Vec Ideal S2048x128 .fp8e4m3) (r : Fin 2048) (c : Fin 128) :
    k0_pay8 (k0_pay4 b) k0_pay5 w (ix2 r c) = w (ix2 r c) * mx (b (ix3 0 r ⟨4 + c.val / 32, by omega⟩)) := by
  pointwise [k0_pay8]
  rw [factors]; congr 4; apply Fin.ext; simp only [group]
  revert c; decide +kernel

/-- The third tile: columns 256 to 383. -/
theorem tile2 (b : Vec Ideal S1x2048x16 .i8) (w : Vec Ideal S2048x128 .fp8e4m3) (r : Fin 2048) (c : Fin 128) :
    k0_pay9 (k0_pay4 b) k0_pay5 w (ix2 r c) = w (ix2 r c) * mx (b (ix3 0 r ⟨8 + c.val / 32, by omega⟩)) := by
  pointwise [k0_pay9]
  rw [factors]; congr 4; apply Fin.ext; simp only [group]
  revert c; decide +kernel

/-- The fourth tile: columns 384 to 511. -/
theorem tile3 (b : Vec Ideal S1x2048x16 .i8) (w : Vec Ideal S2048x128 .fp8e4m3) (r : Fin 2048) (c : Fin 128) :
    k0_pay10 (k0_pay4 b) k0_pay5 12#32 w (ix2 r c)
      = w (ix2 r c) * mx (b (ix3 0 r ⟨12 + c.val / 32, by omega⟩)) := by
  pointwise [k0_pay10]
  rw [factors]; congr 4; apply Fin.ext; simp only [group]
  revert c; decide +kernel

end Cert.OutputIdeal.Weight
-- ==== Proof.Head.lean ====
module

public import proofs.«01_k».proof.Proof.Weight

/-! What one head of the output call leaves: the normalised and gated block `y`, and the dequantised weight. -/

@[expose] public section
set_option maxRecDepth 16384
noncomputable section
namespace Cert.OutputIdeal.Head
open Cert.OutputIdeal Cert.OutputIdeal.Gen Idealize.ShloMosaic Idealize.ShloMosaic.TcCoe Idealize.SL.Sem
open Cert.Factor Cert.OutputIdeal.Weight

/-- The gated block of a head, at a row and a column. -/
def yAt (x0 x1 : Vec Ideal S2048x512 .bf16) (x2 : Vec Ideal S1x512 .f32) (r : Fin 2048) (c : Fin 512) : EReal :=
  gated (fun x => x0 (ix2 r x)) (fun x => x2 (ix2 0 x)) (x1 (ix2 r c)) (x0 (ix2 r c)) c

/-- The dequantised weight of a head, at a row and a column. -/
def wAt (b : Vec Ideal S1x2048x16 .i8) (w : Vec Ideal S2048x512 .fp8e4m3) (r : Fin 2048) (c : Fin 512) : EReal :=
  w (ix2 r c) * mx (b (ix3 0 r ⟨c.val / 32, by omega⟩))

/-- The four row tiles of the block `y` as stored in the result. -/
theorem y_out (x0 x1 : Vec Ideal S2048x512 .bf16) (x2 : Vec Ideal S1x512 .f32) (r : Fin 2048) (c : Fin 512) :
    View.canon (Val := Elt Ideal) (s := S2048x512) (e := .bf16) [⟨Rect.unit ![1536, 0] ![512, 512] inb_S2048x512_S512x512_1536_0,
        k0_pay21 (View.ld x0 (Rect.unit ![1536, 0] ![512, 512] inb_S2048x512_S512x512_1536_0))
          (View.ld x1 (Rect.unit ![1536, 0] ![512, 512] inb_S2048x512_S512x512_1536_0)) x2⟩,
      ⟨Rect.unit ![1024, 0] ![512, 512] inb_S2048x512_S512x512_1024_0,
        k0_pay19 (View.ld x0 (Rect.unit ![1024, 0] ![512, 512] inb_S2048x512_S512x512_1024_0))
          (View.ld x1 (Rect.unit ![1024, 0] ![512, 512] inb_S2048x512_S512x512_1024_0)) x2⟩,
      ⟨Rect.unit ![512, 0] ![512, 512] inb_S2048x512_S512x512_512_0,
        k0_pay17 (View.ld x0 (Rect.unit ![512, 0] ![512, 512] inb_S2048x512_S512x512_512_0))
          (View.ld x1 (Rect.unit ![512, 0] ![512, 512] inb_S2048x512_S512x512_512_0)) x2⟩,
      ⟨Rect.unit ![0, 0] ![512, 512] inb_S2048x512_S512x512_0_0,
        k0_pay15 (k0_pay12 (View.ld x1 (Rect.unit ![0, 0] ![512, 512] inb_S2048x512_S512x512_0_0)))
          (k0_pay13 (View.ld x0 (Rect.unit ![0, 0] ![512, 512] inb_S2048x512_S512x512_0_0)) x2)
          (k0_pay14 (View.ld x1 (Rect.unit ![0, 0] ![512, 512] inb_S2048x512_S512x512_0_0)))⟩] (ix2 r c)
      = yAt x0 x1 x2 r c := by
  obtain ⟨r, hr⟩ := r
  obtain ⟨c, hc⟩ := c
  canon_tiles x h <;> pointwise [k0_pay21, k0_pay19, k0_pay17, k0_pay15, k0_pay14, k0_pay12, k0_pay13, k0_pay14]
  all_goals
    obtain rfl : r = _ := h0
    obtain rfl : c = _ := h1
    exact gated_eq (fun z => x0 (ix2 _ z)) (fun z => x2 (ix2 0 z)) _ _ _

/-- The same four tiles as stored in the scratch the products read. -/
theorem y_scratch (x0 x1 : Vec Ideal S2048x512 .bf16) (x2 : Vec Ideal S1x512 .f32) (r : Fin 2048) (c : Fin 512) :
    View.canon (Val := Elt Ideal) (s := S2048x512) (e := .bf16)
      [⟨Rect.unit ![1536, 0] ![512, 512] inb_S2048x512_S512x512_1536_0,
        k0_pay22 (View.ld x0 (Rect.unit ![1536, 0] ![512, 512] inb_S2048x512_S512x512_1536_0))
          (View.ld x1 (Rect.unit ![1536, 0] ![512, 512] inb_S2048x512_S512x512_1536_0)) x2⟩,
      ⟨Rect.unit ![1024, 0] ![512, 512] inb_S2048x512_S512x512_1024_0,
        k0_pay20 (View.ld x0 (Rect.unit ![1024, 0] ![512, 512] inb_S2048x512_S512x512_1024_0))
          (View.ld x1 (Rect.unit ![1024, 0] ![512, 512] inb_S2048x512_S512x512_1024_0)) x2⟩,
      ⟨Rect.unit ![512, 0] ![512, 512] inb_S2048x512_S512x512_512_0,
        k0_pay18 (k0_pay17 (View.ld x0 (Rect.unit ![512, 0] ![512, 512] inb_S2048x512_S512x512_512_0))
          (View.ld x1 (Rect.unit ![512, 0] ![512, 512] inb_S2048x512_S512x512_512_0)) x2)⟩,
      ⟨Rect.unit ![0, 0] ![512, 512] inb_S2048x512_S512x512_0_0,
        k0_pay16 (k0_pay12 (View.ld x1 (Rect.unit ![0, 0] ![512, 512] inb_S2048x512_S512x512_0_0)))
          (k0_pay13 (View.ld x0 (Rect.unit ![0, 0] ![512, 512] inb_S2048x512_S512x512_0_0)) x2)
          (k0_pay14 (View.ld x1 (Rect.unit ![0, 0] ![512, 512] inb_S2048x512_S512x512_0_0)))⟩] (ix2 r c)
      = yAt x0 x1 x2 r c := by
  obtain ⟨r, hr⟩ := r
  obtain ⟨c, hc⟩ := c
  canon_tiles x h <;>
    pointwise [k0_pay22, k0_pay21, k0_pay20, k0_pay19, k0_pay18, k0_pay17, k0_pay16, k0_pay15, k0_pay12, k0_pay13, k0_pay14]
  all_goals
    obtain rfl : r = _ := h0
    obtain rfl : c = _ := h1
    exact gated_eq (fun z => x0 (ix2 _ z)) (fun z => x2 (ix2 0 z)) _ _ _

/-- The same as one function of the place. -/
theorem y_scratch_eq (x0 x1 : Vec Ideal S2048x512 .bf16) (x2 : Vec Ideal S1x512 .f32) :
    View.canon (Val := Elt Ideal) (s := S2048x512) (e := .bf16)
      [⟨Rect.unit ![1536, 0] ![512, 512] inb_S2048x512_S512x512_1536_0,
        k0_pay22 (View.ld x0 (Rect.unit ![1536, 0] ![512, 512] inb_S2048x512_S512x512_1536_0))
          (View.ld x1 (Rect.unit ![1536, 0] ![512, 512] inb_S2048x512_S512x512_1536_0)) x2⟩,
      ⟨Rect.unit ![1024, 0] ![512, 512] inb_S2048x512_S512x512_1024_0,
        k0_pay20 (View.ld x0 (Rect.unit ![1024, 0] ![512, 512] inb_S2048x512_S512x512_1024_0))
          (View.ld x1 (Rect.unit ![1024, 0] ![512, 512] inb_S2048x512_S512x512_1024_0)) x2⟩,
      ⟨Rect.unit ![512, 0] ![512, 512] inb_S2048x512_S512x512_512_0,
        k0_pay18 (k0_pay17 (View.ld x0 (Rect.unit ![512, 0] ![512, 512] inb_S2048x512_S512x512_512_0))
          (View.ld x1 (Rect.unit ![512, 0] ![512, 512] inb_S2048x512_S512x512_512_0)) x2)⟩,
      ⟨Rect.unit ![0, 0] ![512, 512] inb_S2048x512_S512x512_0_0,
        k0_pay16 (k0_pay12 (View.ld x1 (Rect.unit ![0, 0] ![512, 512] inb_S2048x512_S512x512_0_0)))
          (k0_pay13 (View.ld x0 (Rect.unit ![0, 0] ![512, 512] inb_S2048x512_S512x512_0_0)) x2)
          (k0_pay14 (View.ld x1 (Rect.unit ![0, 0] ![512, 512] inb_S2048x512_S512x512_0_0)))⟩]
      = fun y => yAt x0 x1 x2 (y 0) (y 1) :=
  funext fun y => by
    rw [← ix2_eta y]
    exact y_scratch _ _ _ _ _

/-- The four column tiles of the dequantised weight. -/
theorem w_scratch (b : Vec Ideal S1x2048x16 .i8) (w : Vec Ideal S2048x512 .fp8e4m3) (r : Fin 2048) (c : Fin 512) :
    View.canon (Val := Elt Ideal) (s := S2048x512) (e := .bf16)
      [⟨Rect.unit ![0, 384] ![2048, 128] inb_S2048x512_S2048x128_0_384,
        k0_pay10 (k0_pay4 b) k0_pay5 (12#32)
          (View.ld w (Rect.unit ![0, 384] ![2048, 128] inb_S2048x512_S2048x128_0_384))⟩,
      ⟨Rect.unit ![0, 256] ![2048, 128] inb_S2048x512_S2048x128_0_256,
        k0_pay9 (k0_pay4 b) k0_pay5
          (View.ld w (Rect.unit ![0, 256] ![2048, 128] inb_S2048x512_S2048x128_0_256))⟩,
      ⟨Rect.unit ![0, 128] ![2048, 128] inb_S2048x512_S2048x128_0_128,
        k0_pay8 (k0_pay4 b) k0_pay5
          (View.ld w (Rect.unit ![0, 128] ![2048, 128] inb_S2048x512_S2048x128_0_128))⟩,
      ⟨Rect.unit ![0, 0] ![2048, 128] inb_S2048x512_S2048x128_0_0,
        k0_pay7 (k0_pay6 b)
          (View.ld w (Rect.unit ![0, 0] ![2048, 128] inb_S2048x512_S2048x128_0_0))⟩] (ix2 r c)
      = wAt b w r c := by
  obtain ⟨r, hr⟩ := r
  obtain ⟨c, hc⟩ := c
  canon_tiles x h
  all_goals
    obtain ⟨i, j, rfl⟩ : ∃ (i : Fin 2048) (j : Fin 128), x = ix2 i j := ⟨x 0, x 1, (ix2_eta x).symm⟩
    obtain rfl : r = _ := h0
    obtain rfl : c = _ := h1
  · rw [tile3]; unfold wAt; pointwise; congr 4; apply Fin.ext; show 12 + j.val / 32 = (384 + j.val) / 32; omega
  · rw [tile2]; unfold wAt; pointwise; congr 4; apply Fin.ext; show 8 + j.val / 32 = (256 + j.val) / 32; omega
  · rw [tile1]; unfold wAt; pointwise; congr 4; apply Fin.ext; show 4 + j.val / 32 = (128 + j.val) / 32; omega
  · rw [tile0]; unfold wAt; pointwise

/-- The same as one function of the place. -/
theorem w_scratch_eq (b : Vec Ideal S1x2048x16 .i8) (w : Vec Ideal S2048x512 .fp8e4m3) :
    View.canon (Val := Elt Ideal) (s := S2048x512) (e := .bf16)
      [⟨Rect.unit ![0, 384] ![2048, 128] inb_S2048x512_S2048x128_0_384,
        k0_pay10 (k0_pay4 b) k0_pay5 (12#32)
          (View.ld w (Rect.unit ![0, 384] ![2048, 128] inb_S2048x512_S2048x128_0_384))⟩,
      ⟨Rect.unit ![0, 256] ![2048, 128] inb_S2048x512_S2048x128_0_256,
        k0_pay9 (k0_pay4 b) k0_pay5
          (View.ld w (Rect.unit ![0, 256] ![2048, 128] inb_S2048x512_S2048x128_0_256))⟩,
      ⟨Rect.unit ![0, 128] ![2048, 128] inb_S2048x512_S2048x128_0_128,
        k0_pay8 (k0_pay4 b) k0_pay5
          (View.ld w (Rect.unit ![0, 128] ![2048, 128] inb_S2048x512_S2048x128_0_128))⟩,
      ⟨Rect.unit ![0, 0] ![2048, 128] inb_S2048x512_S2048x128_0_0,
        k0_pay7 (k0_pay6 b)
          (View.ld w (Rect.unit ![0, 0] ![2048, 128] inb_S2048x512_S2048x128_0_0))⟩]
      = fun y => wAt b w (y 0) (y 1) :=
  funext fun y => by
    rw [← ix2_eta y]
    exact w_scratch _ _ _ _

end Cert.OutputIdeal.Head
-- ==== Proof.Acc.lean ====
module

public import proofs.«01_k».proof.Proof.Head
public import Idealize.ShloMosaic.Lib.Pipeline.ReadBack

/-! What one grid point of the output call leaves: the block `y` of its head, and the accumulator, which gains
the product of the head's block with the head's weight. -/

@[expose] public section
set_option maxRecDepth 16384
noncomputable section
namespace Cert.OutputIdeal.Acc
open Cert.OutputIdeal Cert.OutputIdeal.Gen Idealize.ShloMosaic Idealize.ShloMosaic.TcCoe Idealize.SL.Sem
open Cert.OutputIdeal.Head
variable (m : (ℓ : Loc nD τ sig) → Buf (Elt Ideal) ℓ)

/-- Reading the accumulator as the point before left it. -/
theorem carried (X : Vec Ideal S2048x2048 .f32) :
    View.read (Elt Ideal) (View.whole cc0_scratch2) ((Memref.isWhole_whole cc0_scratch2).unread X) = X :=
  Memref.IsWhole.read_unread (Memref.isWhole_whole cc0_scratch2) X

/-- The product a head adds at one entry of the accumulator. -/
def part (c : Dev nD) (t : Fin cfg0.N) (y : S2048x2048.Idx) : EReal :=
  ∑ k : Fin 512, yAt (iblk m c 0 t) (iblk m c 1 t) (iblk m c 2 t) (y 0) k * wAt (iblk m c 4 t) (iblk m c 3 t) (y 1) k

/-- The block `y` a grid point leaves. -/
theorem y_block (c : Dev nD) (t : Fin cfg0.N) (r : Fin 2048) (k : Fin 512) :
    (outsAt0 m c t.val t.isLt).1 (ix2 r k) = yAt (iblk m c 0 t) (iblk m c 1 t) (iblk m c 2 t) r k := by
  by_cases h0 : t.val % 6 = 0
  · rw [outsAt0_A m c t h0 (by omega)]; frame_out; exact y_out _ _ _ _ _
  · by_cases h1 : t.val % 6 = 5
    · rw [outsAt0_C m c t h0 h1]; frame_out; exact y_out _ _ _ _ _
    · rw [outsAt0_B m c t h0 h1]; frame_out; exact y_out _ _ _ _ _

/-- Stores made before a list of stores that covers an index leave no trace at that index. -/
theorem canon_append_left {S : Shape} {e : EltTy} (L L' : List (View.Piece (Elt Ideal) S e)) (y : S.Idx)
    (hc : ∃ p ∈ L, y ∈ p.1.set) : View.canon (L ++ L') y = View.canon L y := by
  induction L with
  | nil => obtain ⟨p, hp, _⟩ := hc; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- The accumulator is first filled with zeros. -/
theorem fill (y : S2048x2048.Idx) : View.canon (Val := Elt Ideal) (s := S2048x2048) (e := .f32)
    [⟨Rect.unit ![0, 0] ![2048, 2048] inb_S2048x2048_S2048x2048_0_0, k0_pay11 (F := Ideal)⟩] y = 0 := by
  canon_tiles x h
  pointwise [k0_pay11]

set_option maxHeartbeats 400000 in
/-- The first point: the accumulator is the first head's product. -/
theorem acc_A (c : Dev nD) (t : Fin cfg0.N) (h0 : t.val % 6 = 0) (r l : Fin 2048) :
    (outsAt0 m c t.val t.isLt).2.2 (ix2 r l)
      = 0 + part m c t (ix2 r l) := by
  rw [outsAt0_A m c t h0 (by omega)]; frame_open
  simp (disch := decide) only [↓ View.readCov_skip (View.whole cc0_scratch2),
    ↓ View.readCov_fill (View.whole cc0_scratch2)]
  frame_out
  simp only [View.readCov_eq_canon', y_scratch_eq, w_scratch_eq]
  refine (canon_append_left [_, _, _, _, _, _, _, _, _, _, _, _, _, _, _, _] [_] _ ?_).trans ?_
  · refine View.cover_of_tiledL (s := S2048x2048) _ ![512, 512] ?_ _; sl_kernel_rfl
  obtain ⟨r, hr⟩ := r
  obtain ⟨l, hl⟩ := l
  canon_tiles x h
  all_goals
    obtain ⟨i, j, rfl⟩ : ∃ (i : Fin 512) (j : Fin 512), x = ix2 i j := ⟨x 0, x 1, (ix2_eta x).symm⟩
    obtain rfl : r = _ := h0
    obtain rfl : l = _ := h1
    pointwise [k0_pay1, k0_pay2, k0_pay23, k0_pay24, k0_pay25, k0_pay26, k0_pay27, k0_pay28, k0_pay29, k0_pay30,
      k0_pay31, k0_pay32, k0_pay33, k0_pay34, k0_pay35, k0_pay36, k0_pay37, k0_pay38]
    refine Eq.trans (congrArg₂ (· + ·) (fill _) ?_) (zero_add (part m c t _))
    rfl

/-- A point between: the accumulator gains the head's product. -/
theorem acc_B (c : Dev nD) (t : Fin cfg0.N) (h0 : ¬t.val % 6 = 0) (h1 : ¬t.val % 6 = 5) (r l : Fin 2048) :
    (outsAt0 m c t.val t.isLt).2.2 (ix2 r l)
      = (outsAt0 m c (t.val - 1) (Nat.lt_of_le_of_lt (Nat.sub_le t.val 1) t.isLt)).2.2 (ix2 r l) + part m c t (ix2 r l) := by
  rw [outsAt0_B m c t h0 h1]; frame_out
  simp only [View.readCov_eq_canon', carried, y_scratch_eq, w_scratch_eq]
  obtain ⟨r, hr⟩ := r
  obtain ⟨l, hl⟩ := l
  canon_tiles x h
  all_goals
    obtain ⟨i, j, rfl⟩ : ∃ (i : Fin 512) (j : Fin 512), x = ix2 i j := ⟨x 0, x 1, (ix2_eta x).symm⟩
    obtain rfl : r = _ := h0
    obtain rfl : l = _ := h1
    pointwise [k0_pay1, k0_pay2, k0_pay23, k0_pay24, k0_pay25, k0_pay26, k0_pay27, k0_pay28, k0_pay29, k0_pay30,
      k0_pay31, k0_pay32, k0_pay33, k0_pay34, k0_pay35, k0_pay36, k0_pay37, k0_pay38]
    rfl

/-- The last point: the accumulator gains the head's product. -/
theorem acc_C (c : Dev nD) (t : Fin cfg0.N) (h0 : ¬t.val % 6 = 0) (h1 : t.val % 6 = 5) (r l : Fin 2048) :
    (outsAt0 m c t.val t.isLt).2.2 (ix2 r l)
      = (outsAt0 m c (t.val - 1) (Nat.lt_of_le_of_lt (Nat.sub_le t.val 1) t.isLt)).2.2 (ix2 r l) + part m c t (ix2 r l) := by
  rw [outsAt0_C m c t h0 h1]; frame_out
  simp only [View.readCov_eq_canon', carried, y_scratch_eq, w_scratch_eq]
  obtain ⟨r, hr⟩ := r
  obtain ⟨l, hl⟩ := l
  canon_tiles x h
  all_goals
    obtain ⟨i, j, rfl⟩ : ∃ (i : Fin 512) (j : Fin 512), x = ix2 i j := ⟨x 0, x 1, (ix2_eta x).symm⟩
    obtain rfl : r = _ := h0
    obtain rfl : l = _ := h1
    pointwise [k0_pay1, k0_pay2, k0_pay23, k0_pay24, k0_pay25, k0_pay26, k0_pay27, k0_pay28, k0_pay29, k0_pay30,
      k0_pay31, k0_pay32, k0_pay33, k0_pay34, k0_pay35, k0_pay36, k0_pay37, k0_pay38]
    rfl

/-- The last point writes the accumulator out. -/
theorem out_C (c : Dev nD) (t : Fin cfg0.N) (h0 : ¬t.val % 6 = 0) (h1 : t.val % 6 = 5) (r l : Fin 2048) :
    (outsAt0 m c t.val t.isLt).2.1 (ix2 r l) = (outsAt0 m c t.val t.isLt).2.2 (ix2 r l) := by
  rw [outsAt0_C m c t h0 h1]; frame_out
  simp only [View.readCov_eq_canon', carried, y_scratch_eq, w_scratch_eq]
  pointwise [k0_pay3]

/-- The accumulator after the last point: the sum of the six heads' products. -/
theorem acc_last (c : Dev nD) (t : Fin cfg0.N) (ht : t.val + 1 = cfg0.N) (y : S2048x2048.Idx) :
    (outsAt0 m c t.val t.isLt).2.2 y = ∑ p : Fin cfg0.N, part m c p y := by
  rw [Pipeline.eq_sum_fin_of_reset_step_apply_last (fun n h => (outsAt0 m c n h).2.2) 6 (fun _ => (0 : EReal)) (part m c)
    (fun t h j => by
      obtain ⟨r, l, rfl⟩ : ∃ (r : Fin 2048) (l : Fin 2048), j = ix2 r l := ⟨j 0, j 1, (ix2_eta j).symm⟩
      exact (acc_A m c t h r l))
    (fun t h j => by
      obtain ⟨r, l, rfl⟩ : ∃ (r : Fin 2048) (l : Fin 2048), j = ix2 r l := ⟨j 0, j 1, (ix2_eta j).symm⟩
      by_cases h1 : t.val % 6 = 5
      · exact acc_C m c t h h1 r l
      · exact acc_B m c t h h1 r l)
    (le_of_eq N_0) t ht y, zero_add]

end Cert.OutputIdeal.Acc
-- ==== Proof.Blocks.lean ====
module

public import proofs.«01_k».proof.Proof.Acc

/-! The blocks of the output call's grid points, and the two result arrays, in terms of the arguments. -/

@[expose] public section
set_option maxRecDepth 16384
noncomputable section
namespace Cert.OutputIdeal.Blocks
open Cert.OutputIdeal Cert.OutputIdeal.Gen Cert.OutputIdeal.Value Idealize.ShloMosaic Idealize.ShloMosaic.TcCoe
open Idealize.SL.Sem Cert.Factor Cert.OutputIdeal.Head Cert.OutputIdeal.Acc
variable (m : (ℓ : Loc nD τ sig) → Buf (Elt Ideal) ℓ)

/-- The block indices at each of the six points. -/
theorem idx : ∀ t : Fin cfg0.N, win0_0.index t = ![0, t.val] ∧ win0_1.index t = ![0, t.val] ∧ win0_2.index t = ![0, 0]
    ∧ win0_3.index t = ![0, t.val] ∧ win0_4.index t = ![t.val, 0, 0] :=
  (by decide +kernel : ∀ t : Fin grid0.N, _)

/-- There are six grid points. -/
theorem lt (t : Fin cfg0.N) : t.val < 6 := lt_of_lt_of_eq t.isLt N_0

/-- Head `t`'s block of the attention output. -/
theorem o_blk (c : Dev nD) (t : Fin cfg0.N) (r : Fin 2048) (k : Fin 512) : iblk m c 0 t (ix2 r k)
    = m ((c : Thread nD τ).loc main_arg0) (ix2 r ⟨t.val * 512 + k.val, by have := lt t; omega⟩) := by
  blk_ext! [iblk, V_main_arg0, idx t]

/-- Head `t`'s block of the gate. -/
theorem g_blk (c : Dev nD) (t : Fin cfg0.N) (r : Fin 2048) (k : Fin 512) : iblk m c 1 t (ix2 r k)
    = m ((c : Thread nD τ).loc main_arg1) (ix2 r ⟨t.val * 512 + k.val, by have := lt t; omega⟩) := by
  blk_ext! [iblk, V_main_arg1, idx t]

/-- The norm weight, the same for every head. -/
theorem n_blk (c : Dev nD) (t : Fin cfg0.N) (k : Fin 512) : iblk m c 2 t (ix2 0 k)
    = m ((c : Thread nD τ).loc main_arg2) (ix2 0 k) := by
  blk_ext! [iblk, V_main_arg2, idx t]

/-- Head `t`'s block of the weight codes. -/
theorem w_blk (c : Dev nD) (t : Fin cfg0.N) (r : Fin 2048) (k : Fin 512) : iblk m c 3 t (ix2 r k)
    = m ((c : Thread nD τ).loc main_arg3) (ix2 r ⟨t.val * 512 + k.val, by have := lt t; omega⟩) := by
  blk_ext! [iblk, V_main_arg3, idx t]

/-- Head `t`'s block of the scale bytes: sixteen of the row's ninety-six. -/
theorem s_blk (c : Dev nD) (t : Fin cfg0.N) (r : Fin 2048) (k : Fin 16) : iblk m c 4 t (ix3 0 r k)
    = m ((c : Thread nD τ).loc main_arg4) (ix2 r ⟨t.val * 16 + k.val, by have := lt t; omega⟩) := by
  blk_ext! [iblk, V, idx t]

end Cert.OutputIdeal.Blocks
-- ==== Proof.RefValue.lean ====
module

public import proofs.«01_k».proof.Proof.Gen.OutputReferenceIdeal.Value
public import proofs.«01_k».proof.Proof.Factor

/-! What the reference of the output call computes, entry by entry. -/

@[expose] public section
set_option maxRecDepth 16384
noncomputable section
namespace Cert.OutputReferenceIdeal.RefValue
open Cert.OutputReferenceIdeal Cert.OutputReferenceIdeal.Gen Cert.OutputReferenceIdeal.Value Idealize.ShloMosaic
open Idealize.ShloMosaic.TcCoe Idealize.SL.Sem
open Cert.Factor

variable (a0 a1 : Vec Ideal S2048x3072 .bf16) (a2 : Vec Ideal S1x512 .f32) (a3 : Vec Ideal S2048x3072 .fp8e4m3)
  (a4 : Vec Ideal S2048x96 .i8)

/-- The gated array at a row and a column. -/
def yRef (r : Fin 2048) (c : Fin 3072) : EReal :=
  gated (fun x => a0 (ix2 r ⟨c.val / 512 * 512 + x.val, by omega⟩)) (fun x => a2 (ix2 0 x)) (a1 (ix2 r c))
    (a0 (ix2 r c)) ⟨c.val % 512, Nat.mod_lt _ (by decide)⟩

/-- The first result is the gated array. -/
theorem y_at (r : Fin 2048) (c : Fin 3072) : G5 a0 a1 a2 a3 a4 (ix2 r c) = yRef a0 a1 a2 r c := by
  unfold G5 k0_pay6 k0_pay7
  pointwise [k0_pay1, k0_pay4, k0_pay5]
  rfl

/-- The dequantised weight. -/
theorem w_at (r : Fin 2048) (k : Fin 3072) :
    k0_pay3 a4 a3 (ix2 r k) = a3 (ix2 r k) * mx (a4 (ix2 r ⟨k.val / 32, by omega⟩)) := by
  rw [← ref_factor]
  pointwise [k0_pay3]

/-- The second result is the product of the gated array with the dequantised weight. -/
theorem out_at (r c : Fin 2048) : G6 a0 a1 a2 a3 a4 (ix2 r c)
    = ∑ k : Fin 3072, yRef a0 a1 a2 r k * (a3 (ix2 c k) * mx (a4 (ix2 c ⟨k.val / 32, by omega⟩))) := by
  unfold G6
  pointwise [k0_pay2]
  refine Finset.sum_congr rfl fun k _ => congrArg₂ (· * ·) ?_ (w_at _ _ _ _)
  exact y_at a0 a1 a2 a3 a4 r k

end Cert.OutputReferenceIdeal.RefValue
-- ==== Proof.Equation.lean ====
module

public import proofs.«01_k».proof.Proof.Blocks
public import proofs.«01_k».proof.Proof.RefValue

/-! The kernel's two result arrays are the reference's, from equal arguments. -/

@[expose] public section
set_option maxRecDepth 16384
noncomputable section
namespace Cert.Equation
open Cert.OutputIdeal Cert.OutputIdeal.Gen Idealize.ShloMosaic Idealize.ShloMosaic.TcCoe
open Idealize.SL.Sem Cert.Factor Cert.OutputIdeal.Head Cert.OutputIdeal.Acc Cert.OutputIdeal.Blocks Cert.OutputReferenceIdeal.RefValue
variable (m : (ℓ : Loc nD τ sig) → Buf (Elt Ideal) ℓ)

/-- A head's gated and normalised value is the reference's in the head's columns. -/
theorem y_point (c : Dev nD) (t : Fin cfg0.N) (r : Fin 2048) (k : Fin 512) (l : Fin 3072) (hl : l.val = t.val * 512 + k.val) :
    yAt (iblk m c 0 t) (iblk m c 1 t) (iblk m c 2 t) r k
      = yRef (m ((c : Thread nD τ).loc main_arg0)) (m ((c : Thread nD τ).loc main_arg1)) (m ((c : Thread nD τ).loc main_arg2)) r l := by
  have hq : l.val / 512 = t.val := by omega
  have hm : (⟨l.val % 512, Nat.mod_lt _ (by decide)⟩ : Fin 512) = k := Fin.ext (by show l.val % 512 = k.val; omega)
  have hk : (⟨t.val * 512 + k.val, by have := lt t; omega⟩ : Fin 3072) = l := Fin.ext hl.symm
  unfold yAt yRef
  simp only [o_blk, g_blk, n_blk, hk, hm, hq]

/-- A head's dequantised weight is the reference's in the head's columns. -/
theorem w_point (c : Dev nD) (t : Fin cfg0.N) (r : Fin 2048) (k : Fin 512) (l : Fin 3072) (hl : l.val = t.val * 512 + k.val) :
    wAt (iblk m c 4 t) (iblk m c 3 t) r k
      = (show EReal from m ((c : Thread nD τ).loc main_arg3) (ix2 r l))
        * mx (m ((c : Thread nD τ).loc main_arg4) (ix2 r ⟨l.val / 32, by omega⟩)) := by
  have hk : (⟨t.val * 512 + k.val, by have := lt t; omega⟩ : Fin 3072) = l := Fin.ext hl.symm
  have hs : (⟨t.val * 16 + k.val / 32, by have := lt t; omega⟩ : Fin 96) = ⟨l.val / 32, by omega⟩ :=
    Fin.ext (by show t.val * 16 + k.val / 32 = l.val / 32; omega)
  unfold wAt
  rw [w_blk, s_blk, hk]
  simp only [hs]

/-- The gated and normalised array. -/
theorem y_eq (c : Dev nD) : Cert.OutputIdeal.Value.G5 m c
    = Cert.OutputReferenceIdeal.Value.G5 (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨r, l, rfl⟩ : ∃ (r : Fin 2048) (l : Fin 3072), i = ix2 r l := ⟨i 0, i 1, (ix2_eta i).symm⟩
  have hp : Cert.OutputIdeal.Value.pt5Of (ix2 r l) = l.val / 512 := by
    show 6 * (r.val / 2048 - 0) + 1 * (l.val / 512 - 0) = _
    omega
  have hN : Cert.OutputIdeal.Value.pt5Of (ix2 r l) < cfg0.N := lt_of_lt_of_eq (by rw [hp]; omega : _ < 6) N_0.symm
  have hL : Cert.OutputIdeal.Value.loc5Of (ix2 r l) = ix2 r ⟨l.val % 512, Nat.mod_lt _ (by decide)⟩ := by
    funext a
    match a with
    | ⟨0, _⟩ => exact Fin.ext (Nat.mod_eq_of_lt r.isLt)
    | ⟨1, _⟩ => rfl
  unfold Cert.OutputIdeal.Value.G5
  rw [dif_pos hN, hL, ← Cert.OutputIdeal.Value.outsAt0_sweep, y_at]
  refine (y_block m c ⟨Cert.OutputIdeal.Value.pt5Of (ix2 r l), hN⟩ r _).trans (y_point m c _ r _ l ?_)
  show l.val = Cert.OutputIdeal.Value.pt5Of (ix2 r l) * 512 + l.val % 512
  rw [hp]; omega

/-- The output projection: the six heads' partial products sum to the product over all columns. -/
theorem out_eq (c : Dev nD) : Cert.OutputIdeal.Value.G6 m c
    = Cert.OutputReferenceIdeal.Value.G6 (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨r, l, rfl⟩ : ∃ (r : Fin 2048) (l : Fin 2048), i = ix2 r l := ⟨i 0, i 1, (ix2_eta i).symm⟩
  have h5 : 5 < cfg0.N := lt_of_lt_of_eq (by decide) N_0.symm
  rw [Cert.OutputIdeal.Value.G6_last, ← Cert.OutputIdeal.Value.outsAt0_sweep m c 5 h5]
  refine (out_C m c ⟨5, h5⟩ (by show ¬5 % 6 = 0; decide) (by show 5 % 6 = 5; decide) r l).trans ?_
  refine (acc_last m c ⟨5, h5⟩ N_0.symm (ix2 r l)).trans ?_
  rw [out_at]
  unfold part
  refine (Finset.sum_congr rfl fun t _ => Finset.sum_congr rfl fun k _ =>
    congrArg₂ (· * ·) (y_point m c t r k ⟨t.val * 512 + k.val, by have := lt t; omega⟩ rfl)
      (w_point m c t l k ⟨t.val * 512 + k.val, by have := lt t; omega⟩ rfl)).trans ?_
  refine Fin.sum_mul_add_congr fun s k hl => ?_
  rfl

end Cert.Equation
-- ==== Proof.Conv.lean ====
module

public import proofs.«01_k».proof.Proof.Factor

/-! The functions that the projections are stated with: one entry of a projection, the convolution's past,
and the convolution with SiLU. -/

@[expose] public section
noncomputable section
namespace Cert.Conv
open Idealize.ShloMosaic Cert.Factor

/-- One entry of a projection: the row `x` against the dequantised weight row of codes `w` and scale bytes `s`. -/
def entry (x w : Fin 2048 → EReal) (s : Fin 64 → BitVec 8) : EReal :=
  ∑ k : Fin 2048, x k * (w k * mx (s ⟨k.val / 32, by omega⟩))

/-- A sequence of 1024 entries with three zeros before it. -/
def past (L : Fin 1024 → EReal) (n : ℕ) : EReal :=
  if h : 3 ≤ n ∧ n < 1027 then L ⟨n - 3, by omega⟩ else 0

/-- SiLU. -/
def silu (c : EReal) : EReal := c * Ideal.logistic c

/-- The kernel's form of SiLU. -/
theorem silu_eq (c : EReal) : c * Ideal.div 1 (1 + Ideal.exp (0 - c)) = silu c := by
  unfold silu Ideal.logistic
  rw [sub_eq_add_neg, zero_add]

/-- The causal convolution of width four at time `t`, with SiLU. -/
def conv (L : Fin 1024 → EReal) (c : Fin 4 → EReal) (t : ℕ) : EReal :=
  silu (past L t * c 0 + past L (t + 1) * c 1 + past L (t + 2) * c 2 + past L (t + 3) * c 3)

end Cert.Conv
-- ==== Proof.Tile.lean ====
module

public import proofs.«01_k».proof.Proof.Gen.ProjectIdeal.Skeleton
public import Idealize.ShloMosaic.Lib.Pointwise
public import proofs.«01_k».proof.Proof.Conv

/-! Reading the factor of one scale byte out of two copies of a row of 64 of them. -/

@[expose] public section
set_option maxRecDepth 16384
noncomputable section
namespace Cert.ProjectIdeal.Tile
open Cert.ProjectIdeal Cert.ProjectIdeal.Gen Idealize.ShloMosaic
open Idealize.ShloMosaic.TcCoe Idealize.SL.Sem
open Cert.Factor Cert.Conv

/-- The lane `e mod 128` of two copies of a row of 64 scale bytes, read as an exponent: the factor of byte `j`
when the lane is `j`. -/
theorem pick {N : ℕ} (b : Vec Ideal ⟨2, ![N, 64]⟩ .i8) (r : Fin N) (e : ℕ) (j : Fin 64) (h : e = j.val) (p : ¬ e < 64 → e - 64 < 64) :
    (if h : e < 64 then Ideal.ofBits FTy.f32 (IntOp.shli ArithUnit.vector (BitVec.setWidth 32 (b (ix2 r ⟨e, h⟩))) 23#32)
      else Ideal.ofBits FTy.f32 (IntOp.shli ArithUnit.vector (BitVec.setWidth 32 (b (ix2 r ⟨e - 64, p h⟩))) 23#32))
      = mx (b (ix2 r j)) := by
  subst h
  rw [dif_pos j.isLt]
  rfl

end Cert.ProjectIdeal.Tile
-- ==== Proof.Wdq.lean ====
module

public import proofs.«01_k».proof.Proof.Gen.ProjectIdeal.Frame.RunB
public import proofs.«01_k».proof.Proof.Tile
public import Idealize.ShloMosaic.Lib.Pipeline.ReadBack

/-! The dequantised weights of one grid point: the four groups of rows the point holds, each code times the factor of
the scale byte of its group of 32 columns. -/

@[expose] public section
set_option maxRecDepth 16384
noncomputable section
namespace Cert.ProjectIdeal.Wdq
open Cert.ProjectIdeal Cert.ProjectIdeal.Gen Idealize.ShloMosaic
open Idealize.ShloMosaic.TcCoe Idealize.SL.Sem
open Cert.Factor Cert.Conv Cert.ProjectIdeal.Tile

variable (c : Dev nD)
  (arg1 : Memref sig .tc .vmem S2048x2048 .bf16) (harg1 : arg1.IsWhole)
  (arg2 : Memref sig .tc .vmem S256x2048 .fp8e4m3) (harg2 : arg2.IsWhole) (arg3 : Memref sig .tc .vmem S256x64 .i8) (harg3 : arg3.IsWhole)
  (arg4 : Memref sig .tc .vmem S256x2048 .fp8e4m3) (harg4 : arg4.IsWhole) (arg5 : Memref sig .tc .vmem S256x64 .i8) (harg5 : arg5.IsWhole)
  (arg6 : Memref sig .tc .vmem S512x2048 .fp8e4m3) (harg6 : arg6.IsWhole) (arg7 : Memref sig .tc .vmem S512x64 .i8) (harg7 : arg7.IsWhole)
  (arg8 : Memref sig .tc .vmem S512x2048 .fp8e4m3) (harg8 : arg8.IsWhole) (arg9 : Memref sig .tc .vmem S512x64 .i8) (harg9 : arg9.IsWhole)
  (arg23 : Memref sig .tc .vmem S1536x2048 .bf16) (arg25 : Memref sig .tc .vmem S8x2064x128 .f32) (harg25 : arg25.IsWhole)
  (x0 : Vec Ideal S2048x2048 .bf16)
  (x1 : Vec Ideal S256x2048 .fp8e4m3) (x2 : Vec Ideal S256x64 .i8) (x3 : Vec Ideal S256x2048 .fp8e4m3) (x4 : Vec Ideal S256x64 .i8)
  (x5 : Vec Ideal S512x2048 .fp8e4m3) (x6 : Vec Ideal S512x64 .i8) (x7 : Vec Ideal S512x2048 .fp8e4m3) (x8 : Vec Ideal S512x64 .i8)

/-- The weight at a row of the 1536 and a column: 256 rows for the queries, 256 for the keys, 512 for the values,
512 for the gate. -/
def wAt (r : Fin 1536) (k : Fin 2048) : EReal :=
  if h : r.val < 256 then (show EReal from x1 (ix2 ⟨r.val, h⟩ k)) * mx (x2 (ix2 ⟨r.val, h⟩ ⟨k.val / 32, by omega⟩))
  else if h : r.val < 512 then (show EReal from x3 (ix2 ⟨r.val - 256, by omega⟩ k)) * mx (x4 (ix2 ⟨r.val - 256, by omega⟩ ⟨k.val / 32, by omega⟩))
  else if h : r.val < 1024 then (show EReal from x5 (ix2 ⟨r.val - 512, by omega⟩ k)) * mx (x6 (ix2 ⟨r.val - 512, by omega⟩ ⟨k.val / 32, by omega⟩))
  else (show EReal from x7 (ix2 ⟨r.val - 1024, by omega⟩ k)) * mx (x8 (ix2 ⟨r.val - 1024, by omega⟩ ⟨k.val / 32, by omega⟩))

/-- A tile's entry of the query rows, as the kernel finds its factor. -/
theorem tile_q {e : ℕ} (r' : Fin 256) (K : Fin 2048) (r : Fin 1536) (k : Fin 2048) (hr : r.val = 0 + r'.val) (hK : K.val = k.val)
    (he : e = K.val / 32) (p : ¬ e < 64 → e - 64 < 64) :
    ((show EReal from x1 (ix2 r' K)) * if h : e < 64 then Ideal.ofBits FTy.f32 (IntOp.shli ArithUnit.vector (BitVec.setWidth 32 (x2 (ix2 r' ⟨e, h⟩))) 23#32)
      else Ideal.ofBits FTy.f32 (IntOp.shli ArithUnit.vector (BitVec.setWidth 32 (x2 (ix2 r' ⟨e - 64, p h⟩))) 23#32))
      = wAt x1 x2 x3 x4 x5 x6 x7 x8 r k := by
  obtain rfl : K = k := Fin.ext hK
  rw [pick x2 r' e ⟨K.val / 32, by omega⟩ he p]
  unfold wAt
  rw [dif_pos (by omega)]
  rw [show (⟨r.val, by omega⟩ : Fin _) = r' from Fin.ext (by simp; omega)]

/-- A tile's entry of the key rows, as the kernel finds its factor. -/
theorem tile_k {e : ℕ} (r' : Fin 256) (K : Fin 2048) (r : Fin 1536) (k : Fin 2048) (hr : r.val = 256 + r'.val) (hK : K.val = k.val)
    (he : e = K.val / 32) (p : ¬ e < 64 → e - 64 < 64) :
    ((show EReal from x3 (ix2 r' K)) * if h : e < 64 then Ideal.ofBits FTy.f32 (IntOp.shli ArithUnit.vector (BitVec.setWidth 32 (x4 (ix2 r' ⟨e, h⟩))) 23#32)
      else Ideal.ofBits FTy.f32 (IntOp.shli ArithUnit.vector (BitVec.setWidth 32 (x4 (ix2 r' ⟨e - 64, p h⟩))) 23#32))
      = wAt x1 x2 x3 x4 x5 x6 x7 x8 r k := by
  obtain rfl : K = k := Fin.ext hK
  rw [pick x4 r' e ⟨K.val / 32, by omega⟩ he p]
  unfold wAt
  rw [dif_neg (by omega)]
  rw [dif_pos (by omega)]
  rw [show (⟨r.val - 256, by omega⟩ : Fin _) = r' from Fin.ext (by simp; omega)]

/-- A tile's entry of the value rows, as the kernel finds its factor. -/
theorem tile_v {e : ℕ} (r' : Fin 512) (K : Fin 2048) (r : Fin 1536) (k : Fin 2048) (hr : r.val = 512 + r'.val) (hK : K.val = k.val)
    (he : e = K.val / 32) (p : ¬ e < 64 → e - 64 < 64) :
    ((show EReal from x5 (ix2 r' K)) * if h : e < 64 then Ideal.ofBits FTy.f32 (IntOp.shli ArithUnit.vector (BitVec.setWidth 32 (x6 (ix2 r' ⟨e, h⟩))) 23#32)
      else Ideal.ofBits FTy.f32 (IntOp.shli ArithUnit.vector (BitVec.setWidth 32 (x6 (ix2 r' ⟨e - 64, p h⟩))) 23#32))
      = wAt x1 x2 x3 x4 x5 x6 x7 x8 r k := by
  obtain rfl : K = k := Fin.ext hK
  rw [pick x6 r' e ⟨K.val / 32, by omega⟩ he p]
  unfold wAt
  rw [dif_neg (by omega)]
  rw [dif_neg (by omega)]
  rw [dif_pos (by omega)]
  rw [show (⟨r.val - 512, by omega⟩ : Fin _) = r' from Fin.ext (by simp; omega)]

/-- A tile's entry of the gate rows, as the kernel finds its factor. -/
theorem tile_g {e : ℕ} (r' : Fin 512) (K : Fin 2048) (r : Fin 1536) (k : Fin 2048) (hr : r.val = 1024 + r'.val) (hK : K.val = k.val)
    (he : e = K.val / 32) (p : ¬ e < 64 → e - 64 < 64) :
    ((show EReal from x7 (ix2 r' K)) * if h : e < 64 then Ideal.ofBits FTy.f32 (IntOp.shli ArithUnit.vector (BitVec.setWidth 32 (x8 (ix2 r' ⟨e, h⟩))) 23#32)
      else Ideal.ofBits FTy.f32 (IntOp.shli ArithUnit.vector (BitVec.setWidth 32 (x8 (ix2 r' ⟨e - 64, p h⟩))) 23#32))
      = wAt x1 x2 x3 x4 x5 x6 x7 x8 r k := by
  obtain rfl : K = k := Fin.ext hK
  rw [pick x8 r' e ⟨K.val / 32, by omega⟩ he p]
  unfold wAt
  rw [dif_neg (by omega)]
  rw [dif_neg (by omega)]
  rw [dif_neg (by omega)]
  rw [show (⟨r.val - 1024, by omega⟩ : Fin _) = r' from Fin.ext (by simp; omega)]

/-- A load from a buffer holding `X` reads `X`. -/
theorem readAt_unread {s : Shape} {e : EltTy} (a : Memref sig .tc .vmem s e) (h : a.IsWhole) (X : Vec Ideal s e) (r : Rect s) :
    View.readAt (Elt Ideal) a.view r.toLoadRect (h.unread X) = View.ld X r := by
  rw [View.readAt_eq_ld, h.read_unread]

set_option maxHeartbeats 0 in
/-- The 64 tiles stored into the scratch are blocks of the dequantised weight. -/
theorem pieces : View.PiecesOf (fun y => wAt x1 x2 x3 x4 x5 x6 x7 x8 (y 0) (y 1))
    (kernelRun0_B.sl.HS0_64 c arg2 harg2 arg3 harg3 arg4 harg4 arg5 harg5 arg6 harg6 arg7 harg7 arg8 harg8 arg9 harg9 x1 x2 x3 x4 x5 x6 x7 x8) := by
  simp only [kernelRun0_B.sl.HS0_64, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.v0, readAt_unread, View.PiecesOf]
  repeat' apply And.intro
  all_goals first | exact True.intro | skip
  all_goals (intro x; obtain ⟨r, k, rfl⟩ : ∃ (r : Fin _) (k : Fin _), x = ix2 r k := ⟨x 0, x 1, (ix2_eta x).symm⟩)
  iterate 16 focus
    pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158]
    refine tile_g x1 x2 x3 x4 x5 x6 x7 x8 _ _ _ _ ?_ ?_ ?_ _
    · simp
    · simp
    try dsimp only
    clear * -; revert k; decide +kernel
  iterate 16 focus
    pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158]
    refine tile_v x1 x2 x3 x4 x5 x6 x7 x8 _ _ _ _ ?_ ?_ ?_ _
    · simp
    · simp
    try dsimp only
    clear * -; revert k; decide +kernel
  iterate 16 focus
    pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158]
    refine tile_k x1 x2 x3 x4 x5 x6 x7 x8 _ _ _ _ ?_ ?_ ?_ _
    · simp
    · simp
    try dsimp only
    clear * -; revert k; decide +kernel
  iterate 16 focus
    pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158]
    refine tile_q x1 x2 x3 x4 x5 x6 x7 x8 _ _ _ _ ?_ ?_ ?_ _
    · simp
    · simp
    try dsimp only
    clear * -; revert k; decide +kernel

end Cert.ProjectIdeal.Wdq
-- ==== Proof.Lin.lean ====
module

public import proofs.«01_k».proof.Proof.Wdq

/-! The projection's scratch of one grid point: eight planes of 128 lanes, and in each the 1024 rows of either batch
after eight rows of zeros. -/

@[expose] public section
set_option maxRecDepth 16384
noncomputable section
namespace Cert.ProjectIdeal.Lin
open Cert.ProjectIdeal Cert.ProjectIdeal.Gen Idealize.ShloMosaic
open Idealize.ShloMosaic.TcCoe Idealize.SL.Sem
open Cert.Factor Cert.Conv Cert.ProjectIdeal.Tile Cert.ProjectIdeal.Wdq

variable (c : Dev nD)
  (arg1 : Memref sig .tc .vmem S2048x2048 .bf16) (harg1 : arg1.IsWhole)
  (arg2 : Memref sig .tc .vmem S256x2048 .fp8e4m3) (harg2 : arg2.IsWhole) (arg3 : Memref sig .tc .vmem S256x64 .i8) (harg3 : arg3.IsWhole)
  (arg4 : Memref sig .tc .vmem S256x2048 .fp8e4m3) (harg4 : arg4.IsWhole) (arg5 : Memref sig .tc .vmem S256x64 .i8) (harg5 : arg5.IsWhole)
  (arg6 : Memref sig .tc .vmem S512x2048 .fp8e4m3) (harg6 : arg6.IsWhole) (arg7 : Memref sig .tc .vmem S512x64 .i8) (harg7 : arg7.IsWhole)
  (arg8 : Memref sig .tc .vmem S512x2048 .fp8e4m3) (harg8 : arg8.IsWhole) (arg9 : Memref sig .tc .vmem S512x64 .i8) (harg9 : arg9.IsWhole)
  (arg23 : Memref sig .tc .vmem S1536x2048 .bf16) (arg25 : Memref sig .tc .vmem S8x2064x128 .f32) (harg25 : arg25.IsWhole)
  (x0 : Vec Ideal S2048x2048 .bf16)
  (x1 : Vec Ideal S256x2048 .fp8e4m3) (x2 : Vec Ideal S256x64 .i8) (x3 : Vec Ideal S256x2048 .fp8e4m3) (x4 : Vec Ideal S256x64 .i8)
  (x5 : Vec Ideal S512x2048 .fp8e4m3) (x6 : Vec Ideal S512x64 .i8) (x7 : Vec Ideal S512x2048 .fp8e4m3) (x8 : Vec Ideal S512x64 .i8)

/-- The dequantised weight as an array. -/
def wF : Vec Ideal S1536x2048 .bf16 := fun y => wAt x1 x2 x3 x4 x5 x6 x7 x8 (y 0) (y 1)

/-- What a load from the weight's scratch reads. -/
theorem readW (o : ℕ) (inb : ∀ a, (![o, 0] : Fin 2 → ℕ) a + (![512, 2048] : Fin 2 → ℕ) a ≤ S1536x2048.size a) :
    arg23.view.readCov (kernelRun0_B.sl.HS0_64 (F := Ideal) c arg2 harg2 arg3 harg3 arg4 harg4 arg5 harg5 arg6 harg6 arg7 harg7 arg8 harg8 arg9 harg9 x1 x2 x3 x4 x5 x6 x7 x8) (Rect.unit (s := S1536x2048) ![o, 0] ![512, 2048] inb).toLoadRect
      = View.ld (wF x1 x2 x3 x4 x5 x6 x7 x8) (Rect.unit (s := S1536x2048) ![o, 0] ![512, 2048] inb) := by
  rw [View.readCov_eq_canon']
  rw [show View.canon (kernelRun0_B.sl.HS0_64 (F := Ideal) c arg2 harg2 arg3 harg3 arg4 harg4 arg5 harg5 arg6 harg6 arg7 harg7 arg8 harg8 arg9 harg9 x1 x2 x3 x4 x5 x6 x7 x8) = wF x1 x2 x3 x4 x5 x6 x7 x8 from
    funext fun y => View.canon_apply_of_pieces (wF x1 x2 x3 x4 x5 x6 x7 x8) _ (pieces c arg2 harg2 arg3 harg3 arg4 harg4 arg5 harg5 arg6 harg6 arg7 harg7 arg8 harg8 arg9 harg9 x1 x2 x3 x4 x5 x6 x7 x8).mem y
      (View.cover_of_tiledBy _ ![256, 128] (by sl_kernel_rfl) y)]

/-- The product of the activations with the weight, in the scratch's layout. -/
def lin : Vec Ideal S8x2064x128 .f32 := fun y =>
  if (y 1).val % 1032 < 8 then 0
  else ∑ k : Fin 2048, (show EReal from x0 (ix2 (⟨(y 1).val / 1032 * 1024 + ((y 1).val % 1032 - 8), by have := (y 1).isLt; simp at this; omega⟩ : Fin 2048) k))
    * wF x1 x2 x3 x4 x5 x6 x7 x8 (ix2 (⟨(y 0).val * 128 + (y 2).val, by have := (y 0).isLt; have := (y 2).isLt; simp at *; omega⟩ : Fin 1536) k)

/-- An entry of the product, at the place the scratch holds it. -/
theorem lin_eq (y : S8x2064x128.Idx) (i : Fin 2048) (q : Fin 1536) (h1 : (y 1).val = i.val / 1024 * 1032 + 8 + i.val % 1024)
    (hq : q.val = (y 0).val * 128 + (y 2).val) :
    ∑ k : Fin 2048, (show EReal from x0 (ix2 i k)) * wF x1 x2 x3 x4 x5 x6 x7 x8 (ix2 q k) = lin x0 x1 x2 x3 x4 x5 x6 x7 x8 y := by
  unfold lin
  rw [if_neg (by omega)]
  refine Finset.sum_congr rfl fun k _ => ?_
  have hi : (⟨(y 1).val / 1032 * 1024 + ((y 1).val % 1032 - 8), by omega⟩ : Fin 2048) = i := Fin.ext (by simp only; omega)
  have hj : (⟨(y 0).val * 128 + (y 2).val, by omega⟩ : Fin 1536) = q := Fin.ext hq.symm
  rw [hi, hj]

/-- A row of zeros. -/
theorem lin_pad (y : S8x2064x128.Idx) (h : (y 1).val % 1032 < 8) : lin x0 x1 x2 x3 x4 x5 x6 x7 x8 y = 0 := if_pos h

/-- One store covers its own rows of its own plane; the others are left to the earlier stores. -/
theorem step {P a : ℕ} (inb : ∀ i, (![P, a, 0] : Fin 3 → ℕ) i + S1x512x128.size i ≤ S8x2064x128.size i)
    (pay : S1x512x128.Idx → Elt Ideal .f32) (L : List (View.Piece (Elt Ideal) S8x2064x128 .f32)) (p : Fin 8) {row : Fin 2064} {lane : Fin 128}
    (h : ¬ (p.val = P ∧ a ≤ row.val ∧ row.val < a + 512) → ∃ pc ∈ L, (ix3 p row lane : S8x2064x128.Idx) ∈ pc.1.set) :
    ∃ pc ∈ (⟨Rect.unit (s := S8x2064x128) ![P, a, 0] S1x512x128.size inb, pay⟩ : View.Piece (Elt Ideal) S8x2064x128 .f32) :: L,
      (ix3 p row lane : S8x2064x128.Idx) ∈ pc.1.set := by
  by_cases hy : p.val = P ∧ a ≤ row.val ∧ row.val < a + 512
  · refine ⟨_, List.mem_cons_self, ?_⟩
    rw [← Rect.map_emb_univ, Finset.mem_map]
    refine ⟨(ix3 (0 : Fin 1) (⟨row.val - a, by omega⟩ : Fin 512) lane : S1x512x128.Idx), Finset.mem_univ _, ?_⟩
    funext i; apply Fin.ext; fin_cases i <;> simp <;> omega
  · obtain ⟨pc, hm, hp⟩ := h hy
    exact ⟨pc, List.mem_cons_of_mem _ hm, hp⟩

/-- The first 4 stores cover what they are said to. -/
theorem cover4 (p : Fin 8) (row : Fin 2064) (lane : Fin 128) (h : p.val < 4 ∧ (8 ≤ row.val ∧ row.val < 520)) :
    ∃ pc ∈ kernelRun0_B.sl.HS2_4 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_4
  refine step _ _ _ _ fun h3 => step _ _ _ _ fun h2 => step _ _ _ _ fun h1 => step _ _ _ _ fun h0 => ?_
  omega

/-- The first 8 stores cover what they are said to. -/
theorem cover8 (p : Fin 8) (row : Fin 2064) (lane : Fin 128) (h : p.val < 4 ∧ (8 ≤ row.val ∧ row.val < 1032)) :
    ∃ pc ∈ kernelRun0_B.sl.HS2_8 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_8
  refine step _ _ _ _ fun h3 => step _ _ _ _ fun h2 => step _ _ _ _ fun h1 => step _ _ _ _ fun h0 => ?_
  exact cover4 c arg1 harg1 arg2 harg2 arg3 harg3 arg4 harg4 arg5 harg5 arg6 harg6 arg7 harg7 arg8 harg8 arg9 harg9 arg23 x0 x1 x2 x3 x4 x5 x6 x7 x8 p row lane (by omega)

/-- The first 12 stores cover what they are said to. -/
theorem cover12 (p : Fin 8) (row : Fin 2064) (lane : Fin 128) (h : p.val < 4 ∧ (8 ≤ row.val ∧ row.val < 1032 ∨ 1040 ≤ row.val ∧ row.val < 1552)) :
    ∃ pc ∈ kernelRun0_B.sl.HS2_12 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_12
  refine step _ _ _ _ fun h3 => step _ _ _ _ fun h2 => step _ _ _ _ fun h1 => step _ _ _ _ fun h0 => ?_
  exact cover8 c arg1 harg1 arg2 harg2 arg3 harg3 arg4 harg4 arg5 harg5 arg6 harg6 arg7 harg7 arg8 harg8 arg9 harg9 arg23 x0 x1 x2 x3 x4 x5 x6 x7 x8 p row lane (by omega)

/-- The first 16 stores cover what they are said to. -/
theorem cover16 (p : Fin 8) (row : Fin 2064) (lane : Fin 128) (h : p.val < 4 ∧ (8 ≤ row.val ∧ row.val < 1032 ∨ 1040 ≤ row.val)) :
    ∃ pc ∈ kernelRun0_B.sl.HS2_16 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_16
  refine step _ _ _ _ fun h3 => step _ _ _ _ fun h2 => step _ _ _ _ fun h1 => step _ _ _ _ fun h0 => ?_
  exact cover12 c arg1 harg1 arg2 harg2 arg3 harg3 arg4 harg4 arg5 harg5 arg6 harg6 arg7 harg7 arg8 harg8 arg9 harg9 arg23 x0 x1 x2 x3 x4 x5 x6 x7 x8 p row lane (by omega)

/-- The first 20 stores cover what they are said to. -/
theorem cover20 (p : Fin 8) (row : Fin 2064) (lane : Fin 128) (h : p.val < 4 ∧ (8 ≤ row.val ∧ row.val < 1032 ∨ 1040 ≤ row.val) ∨ 4 ≤ p.val ∧ (8 ≤ row.val ∧ row.val < 520)) :
    ∃ pc ∈ kernelRun0_B.sl.HS2_20 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_20
  refine step _ _ _ _ fun h3 => step _ _ _ _ fun h2 => step _ _ _ _ fun h1 => step _ _ _ _ fun h0 => ?_
  exact cover16 c arg1 harg1 arg2 harg2 arg3 harg3 arg4 harg4 arg5 harg5 arg6 harg6 arg7 harg7 arg8 harg8 arg9 harg9 arg23 x0 x1 x2 x3 x4 x5 x6 x7 x8 p row lane (by omega)

/-- The first 24 stores cover what they are said to. -/
theorem cover24 (p : Fin 8) (row : Fin 2064) (lane : Fin 128) (h : p.val < 4 ∧ (8 ≤ row.val ∧ row.val < 1032 ∨ 1040 ≤ row.val) ∨ 4 ≤ p.val ∧ (8 ≤ row.val ∧ row.val < 1032)) :
    ∃ pc ∈ kernelRun0_B.sl.HS2_24 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_24
  refine step _ _ _ _ fun h3 => step _ _ _ _ fun h2 => step _ _ _ _ fun h1 => step _ _ _ _ fun h0 => ?_
  exact cover20 c arg1 harg1 arg2 harg2 arg3 harg3 arg4 harg4 arg5 harg5 arg6 harg6 arg7 harg7 arg8 harg8 arg9 harg9 arg23 x0 x1 x2 x3 x4 x5 x6 x7 x8 p row lane (by omega)

/-- The first 28 stores cover what they are said to. -/
theorem cover28 (p : Fin 8) (row : Fin 2064) (lane : Fin 128) (h : p.val < 4 ∧ (8 ≤ row.val ∧ row.val < 1032 ∨ 1040 ≤ row.val) ∨ 4 ≤ p.val ∧ (8 ≤ row.val ∧ row.val < 1032 ∨ 1040 ≤ row.val ∧ row.val < 1552)) :
    ∃ pc ∈ kernelRun0_B.sl.HS2_28 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_28
  refine step _ _ _ _ fun h3 => step _ _ _ _ fun h2 => step _ _ _ _ fun h1 => step _ _ _ _ fun h0 => ?_
  exact cover24 c arg1 harg1 arg2 harg2 arg3 harg3 arg4 harg4 arg5 harg5 arg6 harg6 arg7 harg7 arg8 harg8 arg9 harg9 arg23 x0 x1 x2 x3 x4 x5 x6 x7 x8 p row lane (by omega)

/-- The first 32 stores cover what they are said to. -/
theorem cover32 (p : Fin 8) (row : Fin 2064) (lane : Fin 128) (h : p.val < 4 ∧ (8 ≤ row.val ∧ row.val < 1032 ∨ 1040 ≤ row.val) ∨ 4 ≤ p.val ∧ (8 ≤ row.val ∧ row.val < 1032 ∨ 1040 ≤ row.val)) :
    ∃ pc ∈ kernelRun0_B.sl.HS2_32 (F := Ideal) c arg1 harg1 arg2 harg2 arg3 harg3 arg4 harg4 arg5 harg5 arg6 harg6 arg7 harg7 arg8 harg8 arg9 harg9 arg23 x0 x1 x2 x3 x4 x5 x6 x7 x8, (ix3 p row lane : S8x2064x128.Idx) ∈ pc.1.set := by
  unfold kernelRun0_B.sl.HS2_32
  refine step _ _ _ _ fun h3 => step _ _ _ _ fun h2 => step _ _ _ _ fun h1 => step _ _ _ _ fun h0 => ?_
  exact cover28 c arg1 harg1 arg2 harg2 arg3 harg3 arg4 harg4 arg5 harg5 arg6 harg6 arg7 harg7 arg8 harg8 arg9 harg9 arg23 x0 x1 x2 x3 x4 x5 x6 x7 x8 p row lane (by omega)

set_option maxHeartbeats 0 in
/-- The 32 stores into the scratch are blocks of the product. -/
theorem pieces32 : View.PiecesOf (lin x0 x1 x2 x3 x4 x5 x6 x7 x8) (kernelRun0_B.sl.HS2_32 (F := Ideal) c arg1 harg1 arg2 harg2 arg3 harg3 arg4 harg4 arg5 harg5 arg6 harg6 arg7 harg7 arg8 harg8 arg9 harg9 arg23 x0 x1 x2 x3 x4 x5 x6 x7 x8) := by
  simp only [kernelRun0_B.sl.HS2_4, kernelRun0_B.sl.HS2_8, kernelRun0_B.sl.HS2_12, kernelRun0_B.sl.HS2_16, kernelRun0_B.sl.HS2_20, kernelRun0_B.sl.HS2_24, kernelRun0_B.sl.HS2_28, kernelRun0_B.sl.HS2_32, kernelRun0_B.sl.r_22, kernelRun0_B.sl.r_33, kernelRun0_B.sl.r_34, kernelRun0_B.sl.r_45, kernelRun0_B.sl.r_46, kernelRun0_B.sl.r_58, kernelRun0_B.sl.r_59, kernelRun0_B.sl.r_72, kernelRun0_B.sl.r_73, kernelRun0_B.sl.r_90, kernelRun0_B.sl.v1218, kernelRun0_B.sl.v2162, readAt_unread, readW, View.PiecesOf]
  repeat' apply And.intro
  all_goals first | exact True.intro | skip
  all_goals (intro x; obtain ⟨i, r, l, rfl⟩ : ∃ (i : Fin _) (r : Fin _) (l : Fin _), x = ix3 i r l := ⟨x 0, x 1, x 2, (ix3_eta x).symm⟩)
  all_goals obtain rfl : i = 0 := Subsingleton.elim _ _
  iterate 32 focus
    pointwise [k0_pay160, k0_pay161, k0_pay162, k0_pay163, k0_pay164, k0_pay183, k0_pay184, k0_pay185, k0_pay186, k0_pay187, k0_pay188, k0_pay205, k0_pay206, k0_pay207, k0_pay208, k0_pay209, k0_pay210, k0_pay228, k0_pay229, k0_pay230, k0_pay231, k0_pay232, k0_pay233, k0_pay251, k0_pay252, k0_pay253, k0_pay254, k0_pay255, k0_pay256, k0_pay268, k0_pay269, k0_pay270, k0_pay271, k0_pay272, k0_pay299, k0_pay286, k0_pay287, k0_pay288, k0_pay289, k0_pay290, k0_pay300, k0_pay301, k0_pay302, k0_pay303]
    refine lin_eq x0 x1 x2 x3 x4 x5 x6 x7 x8 _ _ _ ?_ ?_
    · simp <;> omega
    · simp <;> omega

end Cert.ProjectIdeal.Lin
-- ==== Proof.Load.lean ====
module

public import proofs.«01_k».proof.Proof.Lin

/-! What the loads from the projection's scratch read: blocks of the product, with the rows of zeros that come before
either batch. -/

@[expose] public section
set_option maxRecDepth 16384
noncomputable section
namespace Cert.ProjectIdeal.Load
open Cert.ProjectIdeal Cert.ProjectIdeal.Gen Idealize.ShloMosaic
open Idealize.ShloMosaic.TcCoe Idealize.SL.Sem
open Cert.Factor Cert.Conv Cert.ProjectIdeal.Wdq Cert.ProjectIdeal.Lin

section General
variable (a : Memref sig .tc .vmem S8x2064x128 .f32) (ha : a.IsWhole) (G : Vec Ideal S8x2064x128 .f32)
  (L : List (View.Piece (Elt Ideal) S8x2064x128 .f32)) (hL : View.PiecesOf G L)
include hL

/-- A load of stored places reads what was stored there. -/
theorem ld_of_cover {r : Rect S8x2064x128} (hc : ∀ j, ∃ pc ∈ L, r.emb j ∈ pc.1.set) :
    a.view.readCov L r.toLoadRect = View.ld G r := by
  rw [View.readCov_eq_canon']
  funext j
  exact View.canon_apply_of_pieces G L hL.mem _ (hc j)

/-- What a buffer holds at a place that was stored to, or that held it before. -/
theorem over (X : Vec Ideal S8x2064x128 .f32) (y : S8x2064x128.Idx) (hc : (∃ pc ∈ L, y ∈ pc.1.set) ∨ X y = G y) :
    View.read (Elt Ideal) a.view (a.view.writes (Elt Ideal) (ha.unread X) L) y = G y := by
  by_cases h : ∃ pc ∈ L, y ∈ pc.1.set
  · rw [View.read_writes_apply_eq_canon _ _ _ _ h]
    exact View.canon_apply_of_pieces G L hL.mem _ h
  · rw [View.read_writes_apply_of_forall_not_mem _ _ _ _ fun pc hm hy => h ⟨pc, hm, hy⟩, ha.read_unread]
    exact hc.resolve_left h

/-- A load of such places. -/
theorem ld_over (X : Vec Ideal S8x2064x128 .f32) {r : Rect S8x2064x128} (hc : ∀ j, (∃ pc ∈ L, r.emb j ∈ pc.1.set) ∨ X (r.emb j) = G (r.emb j)) :
    View.readAt (Elt Ideal) a.view r.toLoadRect (a.view.writes (Elt Ideal) (ha.unread X) L) = View.ld G r :=
  funext fun j => over a ha G L hL X _ (hc j)

end General

/-- Blocks of an array, one list after another. -/
theorem append_pieces (G : Vec Ideal S8x2064x128 .f32) (L L' : List (View.Piece (Elt Ideal) S8x2064x128 .f32)) (h : View.PiecesOf G L)
    (h' : View.PiecesOf G L') : View.PiecesOf G (L ++ L') := by
  induction L with
  | nil => exact h'
  | cons q L ih => exact ⟨h.1, ih h.2⟩

/-- Where a load of 512 rows reads. -/
theorem emb512 {p o : ℕ} (inb : ∀ i, (![p, o, 0] : Fin 3 → ℕ) i + (![1, 512, 128] : Fin 3 → ℕ) i ≤ S8x2064x128.size i) (j : S1x512x128.Idx) :
    (Rect.unit (s := S8x2064x128) ![p, o, 0] ![1, 512, 128] inb).emb j = ix3 (⟨p, by have := inb 0; simp at this; omega⟩ : Fin 8) (⟨o + (j 1).val, by have := inb 1; have := (j 1).isLt; simp at *; omega⟩ : Fin 2064) (j 2) := by
  have h0 := (j 0).isLt
  funext i; apply Fin.ext; fin_cases i <;> simp at * <;> omega

/-- Where a load of three rows reads. -/
theorem emb3 {p o : ℕ} (inb : ∀ i, (![p, o, 0] : Fin 3 → ℕ) i + (![1, 3, 128] : Fin 3 → ℕ) i ≤ S8x2064x128.size i) (j : S1x3x128.Idx) :
    (Rect.unit (s := S8x2064x128) ![p, o, 0] ![1, 3, 128] inb).emb j = ix3 (⟨p, by have := inb 0; simp at this; omega⟩ : Fin 8) (⟨o + (j 1).val, by have := inb 1; have := (j 1).isLt; simp at *; omega⟩ : Fin 2064) (j 2) := by
  have h0 := (j 0).isLt
  funext i; apply Fin.ext; fin_cases i <;> simp at * <;> omega

/-- The stores of zeros at the first point. -/
def pads : List (View.Piece (Elt Ideal) S8x2064x128 .f32) :=
  [⟨Rect.unit ![7, 1032, 0] S1x8x128.size inb_S8x2064x128_S1x8x128_7_1032_0, k0_pay159 (F := Ideal) k0_pay51⟩,
   ⟨Rect.unit ![7, 0, 0] S1x8x128.size inb_S8x2064x128_S1x8x128_7_0_0, k0_pay50 (F := Ideal)⟩,
   ⟨Rect.unit ![6, 1032, 0] S1x8x128.size inb_S8x2064x128_S1x8x128_6_1032_0, k0_pay49 (F := Ideal)⟩,
   ⟨Rect.unit ![6, 0, 0] S1x8x128.size inb_S8x2064x128_S1x8x128_6_0_0, k0_pay48 (F := Ideal)⟩,
   ⟨Rect.unit ![5, 1032, 0] S1x8x128.size inb_S8x2064x128_S1x8x128_5_1032_0, k0_pay47 (F := Ideal)⟩,
   ⟨Rect.unit ![5, 0, 0] S1x8x128.size inb_S8x2064x128_S1x8x128_5_0_0, k0_pay46 (F := Ideal)⟩,
   ⟨Rect.unit ![4, 1032, 0] S1x8x128.size inb_S8x2064x128_S1x8x128_4_1032_0, k0_pay45 (F := Ideal) kernelRun0_A.sl.cst_1579⟩,
   ⟨Rect.unit ![4, 0, 0] S1x8x128.size inb_S8x2064x128_S1x8x128_4_0_0, k0_pay44 (F := Ideal)⟩,
   ⟨Rect.unit ![3, 1032, 0] S1x8x128.size inb_S8x2064x128_S1x8x128_3_1032_0, k0_pay43 (F := Ideal)⟩,
   ⟨Rect.unit ![3, 0, 0] S1x8x128.size inb_S8x2064x128_S1x8x128_3_0_0, k0_pay42 (F := Ideal)⟩,
   ⟨Rect.unit ![2, 1032, 0] S1x8x128.size inb_S8x2064x128_S1x8x128_2_1032_0, k0_pay41 (F := Ideal)⟩,
   ⟨Rect.unit ![2, 0, 0] S1x8x128.size inb_S8x2064x128_S1x8x128_2_0_0, k0_pay40 (F := Ideal)⟩,
   ⟨Rect.unit ![1, 1032, 0] S1x8x128.size inb_S8x2064x128_S1x8x128_1_1032_0, k0_pay39 (F := Ideal)⟩,
   ⟨Rect.unit ![1, 0, 0] S1x8x128.size inb_S8x2064x128_S1x8x128_1_0_0, k0_pay38 (F := Ideal) k0_pay37⟩,
   ⟨Rect.unit ![0, 1032, 0] S1x8x128.size inb_S8x2064x128_S1x8x128_0_1032_0, k0_pay36 (F := Ideal)⟩,
   ⟨Rect.unit ![0, 0, 0] S1x8x128.size inb_S8x2064x128_S1x8x128_0_0_0, k0_pay35 (F := Ideal)⟩]

/-- One store of eight rows covers them; the others are left to the earlier stores. -/
theorem step8 {P a : ℕ} (inb : ∀ i, (![P, a, 0] : Fin 3 → ℕ) i + S1x8x128.size i ≤ S8x2064x128.size i)
    (pay : S1x8x128.Idx → Elt Ideal .f32) (L : List (View.Piece (Elt Ideal) S8x2064x128 .f32)) (p : Fin 8) {row : Fin 2064} {lane : Fin 128}
    (h : ¬ (p.val = P ∧ a ≤ row.val ∧ row.val < a + 8) → ∃ pc ∈ L, (ix3 p row lane : S8x2064x128.Idx) ∈ pc.1.set) :
    ∃ pc ∈ (⟨Rect.unit (s := S8x2064x128) ![P, a, 0] S1x8x128.size inb, pay⟩ : View.Piece (Elt Ideal) S8x2064x128 .f32) :: L,
      (ix3 p row lane : S8x2064x128.Idx) ∈ pc.1.set := by
  by_cases hy : p.val = P ∧ a ≤ row.val ∧ row.val < a + 8
  · refine ⟨_, List.mem_cons_self, ?_⟩
    rw [← Rect.map_emb_univ, Finset.mem_map]
    refine ⟨(ix3 (0 : Fin 1) (⟨row.val - a, by omega⟩ : Fin 8) lane : S1x8x128.Idx), Finset.mem_univ _, ?_⟩
    funext i; apply Fin.ext; fin_cases i <;> simp <;> omega
  · obtain ⟨pc, hm, hp⟩ := h hy
    exact ⟨pc, List.mem_cons_of_mem _ hm, hp⟩

/-- They cover the eight rows before either batch. -/
theorem pads_cover (p : Fin 8) (row : Fin 2064) (lane : Fin 128) (h : row.val % 1032 < 8) :
    ∃ pc ∈ pads, (ix3 p row lane : S8x2064x128.Idx) ∈ pc.1.set := by
  unfold pads
  iterate 16 refine step8 _ _ _ _ fun _ => ?_
  omega

/-- Stored with a later store or with the zeros. -/
theorem cover_append (L : List (View.Piece (Elt Ideal) S8x2064x128 .f32)) (p : Fin 8) (row : Fin 2064) (lane : Fin 128)
    (h : ¬ row.val % 1032 < 8 → ∃ pc ∈ L, (ix3 p row lane : S8x2064x128.Idx) ∈ pc.1.set) :
    ∃ pc ∈ L ++ pads, (ix3 p row lane : S8x2064x128.Idx) ∈ pc.1.set := by
  by_cases hp : row.val % 1032 < 8
  · obtain ⟨pc, hm, hy⟩ := pads_cover p row lane hp
    exact ⟨pc, List.mem_append_right _ hm, hy⟩
  · obtain ⟨pc, hm, hy⟩ := h hp
    exact ⟨pc, List.mem_append_left _ hm, hy⟩

variable (c : Dev nD)
  (arg1 : Memref sig .tc .vmem S2048x2048 .bf16) (harg1 : arg1.IsWhole)
  (arg2 : Memref sig .tc .vmem S256x2048 .fp8e4m3) (harg2 : arg2.IsWhole) (arg3 : Memref sig .tc .vmem S256x64 .i8) (harg3 : arg3.IsWhole)
  (arg4 : Memref sig .tc .vmem S256x2048 .fp8e4m3) (harg4 : arg4.IsWhole) (arg5 : Memref sig .tc .vmem S256x64 .i8) (harg5 : arg5.IsWhole)
  (arg6 : Memref sig .tc .vmem S512x2048 .fp8e4m3) (harg6 : arg6.IsWhole) (arg7 : Memref sig .tc .vmem S512x64 .i8) (harg7 : arg7.IsWhole)
  (arg8 : Memref sig .tc .vmem S512x2048 .fp8e4m3) (harg8 : arg8.IsWhole) (arg9 : Memref sig .tc .vmem S512x64 .i8) (harg9 : arg9.IsWhole)
  (arg23 : Memref sig .tc .vmem S1536x2048 .bf16) (arg25 : Memref sig .tc .vmem S8x2064x128 .f32) (harg25 : arg25.IsWhole)
  (x0 : Vec Ideal S2048x2048 .bf16)
  (x1 : Vec Ideal S256x2048 .fp8e4m3) (x2 : Vec Ideal S256x64 .i8) (x3 : Vec Ideal S256x2048 .fp8e4m3) (x4 : Vec Ideal S256x64 .i8)
  (x5 : Vec Ideal S512x2048 .fp8e4m3) (x6 : Vec Ideal S512x64 .i8) (x7 : Vec Ideal S512x2048 .fp8e4m3) (x8 : Vec Ideal S512x64 .i8)

set_option maxHeartbeats 0 in
/-- The zeros are blocks of the product's array. -/
theorem pads_pieces : View.PiecesOf (lin x0 x1 x2 x3 x4 x5 x6 x7 x8) pads := by
  simp only [pads, View.PiecesOf]
  repeat' apply And.intro
  all_goals first | exact True.intro | skip
  all_goals (intro x; obtain ⟨i, r, l, rfl⟩ : ∃ (i : Fin _) (r : Fin _) (l : Fin _), x = ix3 i r l := ⟨x 0, x 1, x 2, (ix3_eta x).symm⟩)
  all_goals obtain rfl : i = 0 := Subsingleton.elim _ _
  all_goals rw [lin_pad _ _ _ _ _ _ _ _ _ _ (by simp; omega)]
  all_goals pointwise [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay159, kernelRun0_A.sl.cst_1579]

/-- So are the first 28. -/
theorem pieces28 : View.PiecesOf (lin x0 x1 x2 x3 x4 x5 x6 x7 x8) (kernelRun0_B.sl.HS2_28 (F := Ideal) c arg1 harg1 arg2 harg2 arg3 harg3 arg4 harg4 arg5 harg5 arg6 harg6 arg7 harg7 arg8 harg8 arg9 harg9 arg23 x0 x1 x2 x3 x4 x5 x6 x7 x8) := by
  have h := pieces32 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_32 at h
  exact h.2.2.2.2

/-- So are the first 24. -/
theorem pieces24 : View.PiecesOf (lin x0 x1 x2 x3 x4 x5 x6 x7 x8) (kernelRun0_B.sl.HS2_24 (F := Ideal) c arg1 harg1 arg2 harg2 arg3 harg3 arg4 harg4 arg5 harg5 arg6 harg6 arg7 harg7 arg8 harg8 arg9 harg9 arg23 x0 x1 x2 x3 x4 x5 x6 x7 x8) := by
  have h := pieces28 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_28 at h
  exact h.2.2.2.2

/-- So are the first 20. -/
theorem pieces20 : View.PiecesOf (lin x0 x1 x2 x3 x4 x5 x6 x7 x8) (kernelRun0_B.sl.HS2_20 (F := Ideal) c arg1 harg1 arg2 harg2 arg3 harg3 arg4 harg4 arg5 harg5 arg6 harg6 arg7 harg7 arg8 harg8 arg9 harg9 arg23 x0 x1 x2 x3 x4 x5 x6 x7 x8) := by
  have h := pieces24 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_24 at h
  exact h.2.2.2.2

/-- So are the first 16. -/
theorem pieces16 : View.PiecesOf (lin x0 x1 x2 x3 x4 x5 x6 x7 x8) (kernelRun0_B.sl.HS2_16 (F := Ideal) c arg1 harg1 arg2 harg2 arg3 harg3 arg4 harg4 arg5 harg5 arg6 harg6 arg7 harg7 arg8 harg8 arg9 harg9 arg23 x0 x1 x2 x3 x4 x5 x6 x7 x8) := by
  have h := pieces20 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_20 at h
  exact h.2.2.2.2

/-- So are the first 12. -/
theorem pieces12 : View.PiecesOf (lin x0 x1 x2 x3 x4 x5 x6 x7 x8) (kernelRun0_B.sl.HS2_12 (F := Ideal) c arg1 harg1 arg2 harg2 arg3 harg3 arg4 harg4 arg5 harg5 arg6 harg6 arg7 harg7 arg8 harg8 arg9 harg9 arg23 x0 x1 x2 x3 x4 x5 x6 x7 x8) := by
  have h := pieces16 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_16 at h
  exact h.2.2.2.2

/-- So are the first 8. -/
theorem pieces8 : View.PiecesOf (lin x0 x1 x2 x3 x4 x5 x6 x7 x8) (kernelRun0_B.sl.HS2_8 (F := Ideal) c arg1 harg1 arg2 harg2 arg3 harg3 arg4 harg4 arg5 harg5 arg6 harg6 arg7 harg7 arg8 harg8 arg9 harg9 arg23 x0 x1 x2 x3 x4 x5 x6 x7 x8) := by
  have h := pieces12 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_12 at h
  exact h.2.2.2.2

/-- So are the first 4. -/
theorem pieces4 : View.PiecesOf (lin x0 x1 x2 x3 x4 x5 x6 x7 x8) (kernelRun0_B.sl.HS2_4 (F := Ideal) c arg1 harg1 arg2 harg2 arg3 harg3 arg4 harg4 arg5 harg5 arg6 harg6 arg7 harg7 arg8 harg8 arg9 harg9 arg23 x0 x1 x2 x3 x4 x5 x6 x7 x8) := by
  have h := pieces8 c arg1 harg1 arg2 harg2 arg3 harg3 arg4 harg4 arg5 harg5 arg6 harg6 arg7 harg7 arg8 harg8 arg9 harg9 arg23 x0 x1 x2 x3 x4 x5 x6 x7 x8
  unfold kernelRun0_B.sl.HS2_8 at h
  exact h.2.2.2.2

/-- At the first point the zeros come first. -/
theorem eqA4 : kernelRun0_A.sl.HS2_20 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_4 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_20 kernelRun0_B.sl.HS2_4
  rfl

/-- At the first point the zeros come first. -/
theorem eqA8 : kernelRun0_A.sl.HS2_24 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_8 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_24 kernelRun0_B.sl.HS2_8
  rw [eqA4]; rfl

/-- At the first point the zeros come first. -/
theorem eqA12 : kernelRun0_A.sl.HS2_28 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_12 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_28 kernelRun0_B.sl.HS2_12
  rw [eqA8]; rfl

/-- At the first point the zeros come first. -/
theorem eqA16 : kernelRun0_A.sl.HS2_32 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_16 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_32 kernelRun0_B.sl.HS2_16
  rw [eqA12]; rfl

/-- At the first point the zeros come first. -/
theorem eqA20 : kernelRun0_A.sl.HS2_36 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_20 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_36 kernelRun0_B.sl.HS2_20
  rw [eqA16]; rfl

/-- At the first point the zeros come first. -/
theorem eqA24 : kernelRun0_A.sl.HS2_40 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_24 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_40 kernelRun0_B.sl.HS2_24
  rw [eqA20]; rfl

/-- At the first point the zeros come first. -/
theorem eqA28 : kernelRun0_A.sl.HS2_44 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_28 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_44 kernelRun0_B.sl.HS2_28
  rw [eqA24]; rfl

/-- At the first point the zeros come first. -/
theorem eqA32 : kernelRun0_A.sl.HS2_48 (F := Ideal) c arg1 harg1 arg2 harg2 arg3 harg3 arg4 harg4 arg5 harg5 arg6 harg6 arg7 harg7 arg8 harg8 arg9 harg9 arg23 x0 x1 x2 x3 x4 x5 x6 x7 x8 = kernelRun0_B.sl.HS2_32 (F := Ideal) c arg1 harg1 arg2 harg2 arg3 harg3 arg4 harg4 arg5 harg5 arg6 harg6 arg7 harg7 arg8 harg8 arg9 harg9 arg23 x0 x1 x2 x3 x4 x5 x6 x7 x8 ++ pads := by
  unfold kernelRun0_A.sl.HS2_48 kernelRun0_B.sl.HS2_32
  rw [eqA28]; rfl

variable (xs2 : Vec Ideal S8x2064x128 .f32) (hx : ∀ y : S8x2064x128.Idx, (y 1).val % 1032 < 8 → xs2 y = (0 : EReal))

include hx in
/-- Stored, or one of the zeros held before. -/
theorem cover_or (L : List (View.Piece (Elt Ideal) S8x2064x128 .f32)) (p : Fin 8) (row : Fin 2064) (lane : Fin 128)
    (h : ¬ row.val % 1032 < 8 → ∃ pc ∈ L, (ix3 p row lane : S8x2064x128.Idx) ∈ pc.1.set) :
    (∃ pc ∈ L, (ix3 p row lane : S8x2064x128.Idx) ∈ pc.1.set) ∨ xs2 (ix3 p row lane) = (lin x0 x1 x2 x3 x4 x5 x6 x7 x8) (ix3 p row lane) := by
  by_cases hp : row.val % 1032 < 8
  · exact .inr ((hx _ hp).trans (lin_pad _ _ _ _ _ _ _ _ _ _ hp).symm)
  · exact .inl (h hp)

/-- A load of 512 rows after 4 stores, all of them stored. -/
theorem b4 (p o : ℕ) (inb : ∀ i, (![p, o, 0] : Fin 3 → ℕ) i + (![1, 512, 128] : Fin 3 → ℕ) i ≤ S8x2064x128.size i) (h : (p < 4) ∧ (o = 8)) :
    arg25.view.readCov (kernelRun0_B.sl.HS2_4 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces4 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover4 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a4 (p o : ℕ) (inb : ∀ i, (![p, o, 0] : Fin 3 → ℕ) i + (![1, 512, 128] : Fin 3 → ℕ) i ≤ S8x2064x128.size i) (h : (p < 4) ∧ (o ≤ 8)) :
    arg25.view.readCov (kernelRun0_A.sl.HS2_20 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA4]
  refine ld_of_cover arg25 (lin x0 x1 x2 x3 x4 x5 x6 x7 x8) _ (append_pieces _ _ _ (pieces4 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover4 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

include hx in
/-- The same load at a later point, where the zeros are those the buffer held. -/
theorem o4 (p o : ℕ) (inb : ∀ i, (![p, o, 0] : Fin 3 → ℕ) i + (![1, 512, 128] : Fin 3 → ℕ) i ≤ S8x2064x128.size i) (h : (p < 4) ∧ (o ≤ 8)) :
    View.readAt (Elt Ideal) arg25.view (Rect.unit (s := S8x2064x128) ![p, o, 0] ![1, 512, 128] inb).toLoadRect (arg25.view.writes (Elt Ideal) (harg25.unread xs2) (kernelRun0_B.sl.HS2_4 (F := Ideal) c arg1 harg1 arg2 harg2 arg3 harg3 arg4 harg4 arg5 harg5 arg6 harg6 arg7 harg7 arg8 harg8 arg9 harg9 arg23 x0 x1 x2 x3 x4 x5 x6 x7 x8))
      = View.ld (lin x0 x1 x2 x3 x4 x5 x6 x7 x8) (Rect.unit (s := S8x2064x128) ![p, o, 0] ![1, 512, 128] inb) := by
  refine ld_over arg25 harg25 (lin x0 x1 x2 x3 x4 x5 x6 x7 x8) _ (pieces4 c arg1 harg1 arg2 harg2 arg3 harg3 arg4 harg4 arg5 harg5 arg6 harg6 arg7 harg7 arg8 harg8 arg9 harg9 arg23 x0 x1 x2 x3 x4 x5 x6 x7 x8) xs2 fun j => ?_
  rw [emb512]
  refine cover_or x0 x1 x2 x3 x4 x5 x6 x7 x8 xs2 hx _ _ _ _ fun hp => cover4 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 8 stores, all of them stored. -/
theorem b8 (p o : ℕ) (inb : ∀ i, (![p, o, 0] : Fin 3 → ℕ) i + (![1, 512, 128] : Fin 3 → ℕ) i ≤ S8x2064x128.size i) (h : (p < 4) ∧ (8 ≤ o ∧ o ≤ 520)) :
    arg25.view.readCov (kernelRun0_B.sl.HS2_8 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces8 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover8 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a8 (p o : ℕ) (inb : ∀ i, (![p, o, 0] : Fin 3 → ℕ) i + (![1, 512, 128] : Fin 3 → ℕ) i ≤ S8x2064x128.size i) (h : (p < 4) ∧ (o ≤ 520)) :
    arg25.view.readCov (kernelRun0_A.sl.HS2_24 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA8]
  refine ld_of_cover arg25 (lin x0 x1 x2 x3 x4 x5 x6 x7 x8) _ (append_pieces _ _ _ (pieces8 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover8 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 12 stores, all of them stored. -/
theorem b12 (p o : ℕ) (inb : ∀ i, (![p, o, 0] : Fin 3 → ℕ) i + (![1, 512, 128] : Fin 3 → ℕ) i ≤ S8x2064x128.size i) (h : (p < 4) ∧ (o = 1040)) :
    arg25.view.readCov (kernelRun0_B.sl.HS2_12 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces12 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover12 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a12 (p o : ℕ) (inb : ∀ i, (![p, o, 0] : Fin 3 → ℕ) i + (![1, 512, 128] : Fin 3 → ℕ) i ≤ S8x2064x128.size i) (h : (p < 4) ∧ (1032 ≤ o ∧ o ≤ 1040)) :
    arg25.view.readCov (kernelRun0_A.sl.HS2_28 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA12]
  refine ld_of_cover arg25 (lin x0 x1 x2 x3 x4 x5 x6 x7 x8) _ (append_pieces _ _ _ (pieces12 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover12 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

include hx in
/-- The same load at a later point, where the zeros are those the buffer held. -/
theorem o12 (p o : ℕ) (inb : ∀ i, (![p, o, 0] : Fin 3 → ℕ) i + (![1, 512, 128] : Fin 3 → ℕ) i ≤ S8x2064x128.size i) (h : (p < 4) ∧ (1032 ≤ o ∧ o ≤ 1040)) :
    View.readAt (Elt Ideal) arg25.view (Rect.unit (s := S8x2064x128) ![p, o, 0] ![1, 512, 128] inb).toLoadRect (arg25.view.writes (Elt Ideal) (harg25.unread xs2) (kernelRun0_B.sl.HS2_12 (F := Ideal) c arg1 harg1 arg2 harg2 arg3 harg3 arg4 harg4 arg5 harg5 arg6 harg6 arg7 harg7 arg8 harg8 arg9 harg9 arg23 x0 x1 x2 x3 x4 x5 x6 x7 x8))
      = View.ld (lin x0 x1 x2 x3 x4 x5 x6 x7 x8) (Rect.unit (s := S8x2064x128) ![p, o, 0] ![1, 512, 128] inb) := by
  refine ld_over arg25 harg25 (lin x0 x1 x2 x3 x4 x5 x6 x7 x8) _ (pieces12 c arg1 harg1 arg2 harg2 arg3 harg3 arg4 harg4 arg5 harg5 arg6 harg6 arg7 harg7 arg8 harg8 arg9 harg9 arg23 x0 x1 x2 x3 x4 x5 x6 x7 x8) xs2 fun j => ?_
  rw [emb512]
  refine cover_or x0 x1 x2 x3 x4 x5 x6 x7 x8 xs2 hx _ _ _ _ fun hp => cover12 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 16 stores, all of them stored. -/
theorem b16 (p o : ℕ) (inb : ∀ i, (![p, o, 0] : Fin 3 → ℕ) i + (![1, 512, 128] : Fin 3 → ℕ) i ≤ S8x2064x128.size i) (h : (p < 4) ∧ (1040 ≤ o ∧ o ≤ 1552)) :
    arg25.view.readCov (kernelRun0_B.sl.HS2_16 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces16 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover16 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a16 (p o : ℕ) (inb : ∀ i, (![p, o, 0] : Fin 3 → ℕ) i + (![1, 512, 128] : Fin 3 → ℕ) i ≤ S8x2064x128.size i) (h : (p < 4) ∧ (1032 ≤ o ∧ o ≤ 1552)) :
    arg25.view.readCov (kernelRun0_A.sl.HS2_32 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA16]
  refine ld_of_cover arg25 (lin x0 x1 x2 x3 x4 x5 x6 x7 x8) _ (append_pieces _ _ _ (pieces16 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover16 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 20 stores, all of them stored. -/
theorem b20 (p o : ℕ) (inb : ∀ i, (![p, o, 0] : Fin 3 → ℕ) i + (![1, 512, 128] : Fin 3 → ℕ) i ≤ S8x2064x128.size i) (h : (4 ≤ p ∧ p < 8) ∧ (o = 8)) :
    arg25.view.readCov (kernelRun0_B.sl.HS2_20 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces20 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover20 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a20 (p o : ℕ) (inb : ∀ i, (![p, o, 0] : Fin 3 → ℕ) i + (![1, 512, 128] : Fin 3 → ℕ) i ≤ S8x2064x128.size i) (h : (4 ≤ p ∧ p < 8) ∧ (o ≤ 8)) :
    arg25.view.readCov (kernelRun0_A.sl.HS2_36 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA20]
  refine ld_of_cover arg25 (lin x0 x1 x2 x3 x4 x5 x6 x7 x8) _ (append_pieces _ _ _ (pieces20 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover20 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

include hx in
/-- The same load at a later point, where the zeros are those the buffer held. -/
theorem o20 (p o : ℕ) (inb : ∀ i, (![p, o, 0] : Fin 3 → ℕ) i + (![1, 512, 128] : Fin 3 → ℕ) i ≤ S8x2064x128.size i) (h : (4 ≤ p ∧ p < 8) ∧ (o ≤ 8)) :
    View.readAt (Elt Ideal) arg25.view (Rect.unit (s := S8x2064x128) ![p, o, 0] ![1, 512, 128] inb).toLoadRect (arg25.view.writes (Elt Ideal) (harg25.unread xs2) (kernelRun0_B.sl.HS2_20 (F := Ideal) c arg1 harg1 arg2 harg2 arg3 harg3 arg4 harg4 arg5 harg5 arg6 harg6 arg7 harg7 arg8 harg8 arg9 harg9 arg23 x0 x1 x2 x3 x4 x5 x6 x7 x8))
      = View.ld (lin x0 x1 x2 x3 x4 x5 x6 x7 x8) (Rect.unit (s := S8x2064x128) ![p, o, 0] ![1, 512, 128] inb) := by
  refine ld_over arg25 harg25 (lin x0 x1 x2 x3 x4 x5 x6 x7 x8) _ (pieces20 c arg1 harg1 arg2 harg2 arg3 harg3 arg4 harg4 arg5 harg5 arg6 harg6 arg7 harg7 arg8 harg8 arg9 harg9 arg23 x0 x1 x2 x3 x4 x5 x6 x7 x8) xs2 fun j => ?_
  rw [emb512]
  refine cover_or x0 x1 x2 x3 x4 x5 x6 x7 x8 xs2 hx _ _ _ _ fun hp => cover20 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 24 stores, all of them stored. -/
theorem b24 (p o : ℕ) (inb : ∀ i, (![p, o, 0] : Fin 3 → ℕ) i + (![1, 512, 128] : Fin 3 → ℕ) i ≤ S8x2064x128.size i) (h : (4 ≤ p ∧ p < 8) ∧ (8 ≤ o ∧ o ≤ 520)) :
    arg25.view.readCov (kernelRun0_B.sl.HS2_24 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces24 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover24 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a24 (p o : ℕ) (inb : ∀ i, (![p, o, 0] : Fin 3 → ℕ) i + (![1, 512, 128] : Fin 3 → ℕ) i ≤ S8x2064x128.size i) (h : (4 ≤ p ∧ p < 8) ∧ (o ≤ 520)) :
    arg25.view.readCov (kernelRun0_A.sl.HS2_40 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA24]
  refine ld_of_cover arg25 (lin x0 x1 x2 x3 x4 x5 x6 x7 x8) _ (append_pieces _ _ _ (pieces24 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover24 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 28 stores, all of them stored. -/
theorem b28 (p o : ℕ) (inb : ∀ i, (![p, o, 0] : Fin 3 → ℕ) i + (![1, 512, 128] : Fin 3 → ℕ) i ≤ S8x2064x128.size i) (h : (4 ≤ p ∧ p < 8) ∧ (o = 1040)) :
    arg25.view.readCov (kernelRun0_B.sl.HS2_28 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces28 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover28 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a28 (p o : ℕ) (inb : ∀ i, (![p, o, 0] : Fin 3 → ℕ) i + (![1, 512, 128] : Fin 3 → ℕ) i ≤ S8x2064x128.size i) (h : (4 ≤ p ∧ p < 8) ∧ (1032 ≤ o ∧ o ≤ 1040)) :
    arg25.view.readCov (kernelRun0_A.sl.HS2_44 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA28]
  refine ld_of_cover arg25 (lin x0 x1 x2 x3 x4 x5 x6 x7 x8) _ (append_pieces _ _ _ (pieces28 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover28 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

include hx in
/-- The same load at a later point, where the zeros are those the buffer held. -/
theorem o28 (p o : ℕ) (inb : ∀ i, (![p, o, 0] : Fin 3 → ℕ) i + (![1, 512, 128] : Fin 3 → ℕ) i ≤ S8x2064x128.size i) (h : (4 ≤ p ∧ p < 8) ∧ (1032 ≤ o ∧ o ≤ 1040)) :
    View.readAt (Elt Ideal) arg25.view (Rect.unit (s := S8x2064x128) ![p, o, 0] ![1, 512, 128] inb).toLoadRect (arg25.view.writes (Elt Ideal) (harg25.unread xs2) (kernelRun0_B.sl.HS2_28 (F := Ideal) c arg1 harg1 arg2 harg2 arg3 harg3 arg4 harg4 arg5 harg5 arg6 harg6 arg7 harg7 arg8 harg8 arg9 harg9 arg23 x0 x1 x2 x3 x4 x5 x6 x7 x8))
      = View.ld (lin x0 x1 x2 x3 x4 x5 x6 x7 x8) (Rect.unit (s := S8x2064x128) ![p, o, 0] ![1, 512, 128] inb) := by
  refine ld_over arg25 harg25 (lin x0 x1 x2 x3 x4 x5 x6 x7 x8) _ (pieces28 c arg1 harg1 arg2 harg2 arg3 harg3 arg4 harg4 arg5 harg5 arg6 harg6 arg7 harg7 arg8 harg8 arg9 harg9 arg23 x0 x1 x2 x3 x4 x5 x6 x7 x8) xs2 fun j => ?_
  rw [emb512]
  refine cover_or x0 x1 x2 x3 x4 x5 x6 x7 x8 xs2 hx _ _ _ _ fun hp => cover28 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of 512 rows after 32 stores, all of them stored. -/
theorem b32 (p o : ℕ) (inb : ∀ i, (![p, o, 0] : Fin 3 → ℕ) i + (![1, 512, 128] : Fin 3 → ℕ) i ≤ S8x2064x128.size i) (h : (4 ≤ p ∧ p < 8) ∧ (1040 ≤ o ∧ o ≤ 1552)) :
    arg25.view.readCov (kernelRun0_B.sl.HS2_32 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  refine ld_of_cover arg25 (lin x0 x1 x2 x3 x4 x5 x6 x7 x8) _ (pieces32 c arg1 harg1 arg2 harg2 arg3 harg3 arg4 harg4 arg5 harg5 arg6 harg6 arg7 harg7 arg8 harg8 arg9 harg9 arg23 x0 x1 x2 x3 x4 x5 x6 x7 x8) fun j => ?_
  rw [emb512]
  exact cover32 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same load at the first point, of rows of zeros too. -/
theorem a32 (p o : ℕ) (inb : ∀ i, (![p, o, 0] : Fin 3 → ℕ) i + (![1, 512, 128] : Fin 3 → ℕ) i ≤ S8x2064x128.size i) (h : (4 ≤ p ∧ p < 8) ∧ (1032 ≤ o ∧ o ≤ 1552)) :
    arg25.view.readCov (kernelRun0_A.sl.HS2_48 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 512, 128] inb).toLoadRect = View.ld (lin x0 x1 x2 x3 x4 x5 x6 x7 x8) (Rect.unit (s := S8x2064x128) ![p, o, 0] ![1, 512, 128] inb) := by
  rw [eqA32]
  refine ld_of_cover arg25 (lin x0 x1 x2 x3 x4 x5 x6 x7 x8) _ (append_pieces _ _ _ (pieces32 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb512]
  refine cover_append _ _ _ _ fun hp => cover32 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- A load of three rows after all stores. -/
theorem b32' (p o : ℕ) (inb : ∀ i, (![p, o, 0] : Fin 3 → ℕ) i + (![1, 3, 128] : Fin 3 → ℕ) i ≤ S8x2064x128.size i) (h : p < 8 ∧ (o = 1029 ∨ o = 2061)) :
    arg25.view.readCov (kernelRun0_B.sl.HS2_32 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 3, 128] inb).toLoadRect = View.ld (lin x0 x1 x2 x3 x4 x5 x6 x7 x8) (Rect.unit (s := S8x2064x128) ![p, o, 0] ![1, 3, 128] inb) := by
  refine ld_of_cover arg25 (lin x0 x1 x2 x3 x4 x5 x6 x7 x8) _ (pieces32 c arg1 harg1 arg2 harg2 arg3 harg3 arg4 harg4 arg5 harg5 arg6 harg6 arg7 harg7 arg8 harg8 arg9 harg9 arg23 x0 x1 x2 x3 x4 x5 x6 x7 x8) fun j => ?_
  rw [emb3]
  exact cover32 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only; omega)

/-- The same at the first point. -/
theorem a32' (p o : ℕ) (inb : ∀ i, (![p, o, 0] : Fin 3 → ℕ) i + (![1, 3, 128] : Fin 3 → ℕ) i ≤ S8x2064x128.size i) (h : p < 8 ∧ (o = 1029 ∨ o = 2061)) :
    arg25.view.readCov (kernelRun0_A.sl.HS2_48 (F := Ideal) c arg1 harg1 arg2 harg2 arg3 harg3 arg4 harg4 arg5 harg5 arg6 harg6 arg7 harg7 arg8 harg8 arg9 harg9 arg23 x0 x1 x2 x3 x4 x5 x6 x7 x8) (Rect.unit (s := S8x2064x128) ![p, o, 0] ![1, 3, 128] inb).toLoadRect = View.ld (lin x0 x1 x2 x3 x4 x5 x6 x7 x8) (Rect.unit (s := S8x2064x128) ![p, o, 0] ![1, 3, 128] inb) := by
  rw [eqA32]
  refine ld_of_cover arg25 (lin x0 x1 x2 x3 x4 x5 x6 x7 x8) _ (append_pieces _ _ _ (pieces32 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)) fun j => ?_
  rw [emb3]
  refine cover_append _ _ _ _ fun hp => cover32 c arg1 harg1 arg2 harg2 arg3 harg3 arg4 harg4 arg5 harg5 arg6 harg6 arg7 harg7 arg8 harg8 arg9 harg9 arg23 x0 x1 x2 x3 x4 x5 x6 x7 x8 _ _ _ (by have := (j 1).isLt; simp at this; simp only at hp ⊢; omega)

/-- What the scratch holds after the first point. -/
theorem scrA : View.canon (kernelRun0_A.sl.HS2_48 (F := Ideal) c arg1 harg1 arg2 harg2 arg3 harg3 arg4 harg4 arg5 harg5 arg6 harg6 arg7 harg7 arg8 harg8 arg9 harg9 arg23 x0 x1 x2 x3 x4 x5 x6 x7 x8) = (lin x0 x1 x2 x3 x4 x5 x6 x7 x8) := by
  rw [eqA32]
  funext y
  refine View.canon_apply_of_pieces (lin x0 x1 x2 x3 x4 x5 x6 x7 x8) _ (append_pieces _ _ _ (pieces32 c arg1 harg1 arg2 harg2 arg3 harg3 arg4 harg4 arg5 harg5 arg6 harg6 arg7 harg7 arg8 harg8 arg9 harg9 arg23 x0 x1 x2 x3 x4 x5 x6 x7 x8) (pads_pieces _ _ _ _ _ _ _ _ _)).mem y ?_
  rw [← ix3_eta y]
  refine cover_append _ _ _ _ fun hp => cover32 c arg1 harg1 arg2 harg2 arg3 harg3 arg4 harg4 arg5 harg5 arg6 harg6 arg7 harg7 arg8 harg8 arg9 harg9 arg23 x0 x1 x2 x3 x4 x5 x6 x7 x8 _ _ _ (by have := (y 0).isLt; simp at this; omega)

include hx in
/-- What it holds after a later point. -/
theorem scrB : View.read (Elt Ideal) arg25.view (arg25.view.writes (Elt Ideal) (harg25.unread xs2) (kernelRun0_B.sl.HS2_32 (F := Ideal) c arg1 harg1 arg2 harg2 arg3 harg3 arg4 harg4 arg5 harg5 arg6 harg6 arg7 harg7 arg8 harg8 arg9 harg9 arg23 x0 x1 x2 x3 x4 x5 x6 x7 x8)) = (lin x0 x1 x2 x3 x4 x5 x6 x7 x8) := by
  funext y
  refine over arg25 harg25 (lin x0 x1 x2 x3 x4 x5 x6 x7 x8) _ (pieces32 c arg1 harg1 arg2 harg2 arg3 harg3 arg4 harg4 arg5 harg5 arg6 harg6 arg7 harg7 arg8 harg8 arg9 harg9 arg23 x0 x1 x2 x3 x4 x5 x6 x7 x8) xs2 y ?_
  rw [← ix3_eta y]
  refine cover_or x0 x1 x2 x3 x4 x5 x6 x7 x8 xs2 hx _ _ _ _ fun hp => cover32 c arg1 harg1 arg2 harg2 arg3 harg3 arg4 harg4 arg5 harg5 arg6 harg6 arg7 harg7 arg8 harg8 arg9 harg9 arg23 x0 x1 x2 x3 x4 x5 x6 x7 x8 _ _ _ (by have := (y 0).isLt; simp at this; omega)

end Cert.ProjectIdeal.Load
-- ==== Proof.ConvOut.lean ====
module

public import proofs.«01_k».proof.Proof.Load
public import proofs.«01_k».proof.Proof.Gen.ProjectIdeal.Value

/-! What the projection computes from the product's array: the convolution with SiLU, the gate and the tails. -/

@[expose] public section
set_option maxRecDepth 16384
noncomputable section
namespace Cert.ProjectIdeal.ConvOut
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load

/-- Entry `(p, row, lane)` of the product's array, at numbers. -/
def at3 (Y : Vec Ideal S8x2064x128 .f32) (p row lane : ℕ) : EReal := Y (ix3 (Fin.ofNat 8 p) (Fin.ofNat 2064 row) (Fin.ofNat 128 lane))

/-- The convolution with SiLU, as it is read from the product's array: row `r` of both batches' rows, column `n` of the planes
from `P` on. -/
def cOut {N : ℕ} (Y : Vec Ideal S8x2064x128 .f32) (w : Vec Ideal ⟨2, ![4, N]⟩ .f32) (P : ℕ) (r : Fin 2048) (n : Fin N) : EReal :=
  silu (at3 Y (P + n.val / 128) (r.val / 1024 * 1032 + r.val % 1024 + 5) (n.val % 128) * w (ix2 (0 : Fin 4) n)
    + at3 Y (P + n.val / 128) (r.val / 1024 * 1032 + r.val % 1024 + 6) (n.val % 128) * w (ix2 (1 : Fin 4) n)
    + at3 Y (P + n.val / 128) (r.val / 1024 * 1032 + r.val % 1024 + 7) (n.val % 128) * w (ix2 (2 : Fin 4) n)
    + at3 Y (P + n.val / 128) (r.val / 1024 * 1032 + r.val % 1024 + 8) (n.val % 128) * w (ix2 (3 : Fin 4) n))

/-- Reading at numbers is reading at the indices that have them. -/
theorem at3_eq (Y : Vec Ideal S8x2064x128 .f32) (q : Fin 8) (a : Fin 2064) (l : Fin 128) {p row lane : ℕ} (hp : p = q.val) (ha : row = a.val)
    (hl : lane = l.val) : at3 Y p row lane = Y (ix3 q a l) := by
  subst hp ha hl
  unfold at3
  rw [Fin.ofNat_val_eq_self, Fin.ofNat_val_eq_self, Fin.ofNat_val_eq_self]

/-- The kernel's form of an entry of the convolution. -/
theorem cOut_eq {N : ℕ} (Y : Vec Ideal S8x2064x128 .f32) (w : Vec Ideal ⟨2, ![4, N]⟩ .f32) (P : ℕ) (q : Fin 8) (a0 a1 a2 a3 : Fin 2064) (l : Fin 128)
    (j0 j1 j2 j3 : Fin 4) (m : Fin N) (r : Fin 2048) (n : Fin N) (hq : q.val = P + n.val / 128)
    (ha : a0.val = r.val / 1024 * 1032 + r.val % 1024 + 5 ∧ a1.val = a0.val + 1 ∧ a2.val = a0.val + 2 ∧ a3.val = a0.val + 3)
    (hl : l.val = n.val % 128) (hm : m.val = n.val) (hj : j0 = 0 ∧ j1 = 1 ∧ j2 = 2 ∧ j3 = 3) :
    (Y (ix3 q a0 l) * w (ix2 j0 m) + Y (ix3 q a1 l) * w (ix2 j1 m) + Y (ix3 q a2 l) * w (ix2 j2 m) + Y (ix3 q a3 l) * w (ix2 j3 m))
      * Ideal.div 1 (1 + Ideal.exp (0 - (Y (ix3 q a0 l) * w (ix2 j0 m) + Y (ix3 q a1 l) * w (ix2 j1 m) + Y (ix3 q a2 l) * w (ix2 j2 m)
        + Y (ix3 q a3 l) * w (ix2 j3 m)))) = cOut Y w P r n := by
  obtain ⟨h0, h1, h2, h3⟩ := ha
  obtain ⟨rfl, rfl, rfl, rfl⟩ := hj
  obtain rfl : m = n := Fin.ext hm
  rw [silu_eq]
  unfold cOut
  rw [at3_eq Y q a0 l hq.symm h0.symm hl.symm, at3_eq Y q a1 l hq.symm (by omega) hl.symm, at3_eq Y q a2 l hq.symm (by omega) hl.symm,
    at3_eq Y q a3 l hq.symm (by omega) hl.symm]

/-- The product of the activations with the gate's rows of the weight. -/
def gOut (x : Vec Ideal S2048x2048 .bf16) (w : Vec Ideal S1536x2048 .bf16) (r : Fin 2048) (n : Fin 512) : EReal :=
  ∑ k : Fin 2048, (show EReal from x (ix2 r k)) * w (ix2 (⟨1024 + n.val, by omega⟩ : Fin 1536) k)

/-- The kernel's form of an entry of the gate. -/
theorem gOut_eq (x : Vec Ideal S2048x2048 .bf16) (w : Vec Ideal S1536x2048 .bf16) (i : Fin 2048) (q : Fin 1536) (r : Fin 2048) (n : Fin 512)
    (hi : i.val = r.val) (hq : q.val = 1024 + n.val) :
    ∑ k : Fin 2048, (show EReal from x (ix2 i k)) * w (ix2 q k) = gOut x w r n := by
  obtain rfl : i = r := Fin.ext hi
  rw [show q = (⟨1024 + n.val, by omega⟩ : Fin 1536) from Fin.ext hq]
  rfl

/-- The last three rows of either batch. -/
def tOut (Y : Vec Ideal S8x2064x128 .f32) (P b j n : ℕ) : EReal := at3 Y (P + n / 128) (b * 1032 + 1029 + j) (n % 128)

/-- The kernel's form of an entry of a tail. -/
theorem tOut_eq (Y : Vec Ideal S8x2064x128 .f32) (P : ℕ) (q : Fin 8) (a : Fin 2064) (l : Fin 128) (b j n : ℕ) (hq : q.val = P + n / 128)
    (ha : a.val = b * 1032 + 1029 + j) (hl : l.val = n % 128) : Y (ix3 q a l) = tOut Y P b j n :=
  (at3_eq Y q a l hq.symm ha.symm hl.symm).symm

variable (c : Dev nD)
  (arg2 : Memref sig .tc .vmem S256x2048 .fp8e4m3) (harg2 : arg2.IsWhole) (arg3 : Memref sig .tc .vmem S256x64 .i8) (harg3 : arg3.IsWhole)
  (arg4 : Memref sig .tc .vmem S256x2048 .fp8e4m3) (harg4 : arg4.IsWhole) (arg5 : Memref sig .tc .vmem S256x64 .i8) (harg5 : arg5.IsWhole)
  (arg6 : Memref sig .tc .vmem S512x2048 .fp8e4m3) (harg6 : arg6.IsWhole) (arg7 : Memref sig .tc .vmem S512x64 .i8) (harg7 : arg7.IsWhole)
  (arg8 : Memref sig .tc .vmem S512x2048 .fp8e4m3) (harg8 : arg8.IsWhole) (arg9 : Memref sig .tc .vmem S512x64 .i8) (harg9 : arg9.IsWhole)
  (arg23 : Memref sig .tc .vmem S1536x2048 .bf16)
  (x1 : Vec Ideal S256x2048 .fp8e4m3) (x2 : Vec Ideal S256x64 .i8) (x3 : Vec Ideal S256x2048 .fp8e4m3) (x4 : Vec Ideal S256x64 .i8)
  (x5 : Vec Ideal S512x2048 .fp8e4m3) (x6 : Vec Ideal S512x64 .i8) (x7 : Vec Ideal S512x2048 .fp8e4m3) (x8 : Vec Ideal S512x64 .i8)

/-- The weight's scratch is written the same way at the first point. -/
theorem readWA (o : ℕ) (inb : ∀ a, (![o, 0] : Fin 2 → ℕ) a + (![512, 2048] : Fin 2 → ℕ) a ≤ S1536x2048.size a) :
    arg23.view.readCov (kernelRun0_A.sl.HS0_64 (F := Ideal) c arg2 harg2 arg3 harg3 arg4 harg4 arg5 harg5 arg6 harg6 arg7 harg7 arg8 harg8 arg9 harg9 x1 x2 x3 x4 x5 x6 x7 x8) (Rect.unit (s := S1536x2048) ![o, 0] ![512, 2048] inb).toLoadRect
      = View.ld (wF x1 x2 x3 x4 x5 x6 x7 x8) (Rect.unit (s := S1536x2048) ![o, 0] ![512, 2048] inb) := by
  rw [show kernelRun0_A.sl.HS0_64 (F := Ideal) c arg2 harg2 arg3 harg3 arg4 harg4 arg5 harg5 arg6 harg6 arg7 harg7 arg8 harg8 arg9 harg9 x1 x2 x3 x4 x5 x6 x7 x8 = kernelRun0_B.sl.HS0_64 (F := Ideal) c arg2 harg2 arg3 harg3 arg4 harg4 arg5 harg5 arg6 harg6 arg7 harg7 arg8 harg8 arg9 harg9 x1 x2 x3 x4 x5 x6 x7 x8 from rfl]
  exact readW c arg2 harg2 arg3 harg3 arg4 harg4 arg5 harg5 arg6 harg6 arg7 harg7 arg8 harg8 arg9 harg9 arg23 x1 x2 x3 x4 x5 x6 x7 x8 o inb

end Cert.ProjectIdeal.ConvOut
-- ==== Proof.OutQ.lean ====
module

public import proofs.«01_k».proof.Proof.ConvOut

/-! What the projection stores of the queries. -/

@[expose] public section
set_option maxRecDepth 16384
noncomputable section
namespace Cert.ProjectIdeal.OutQ
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load Cert.ProjectIdeal.ConvOut

section First
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32)

set_option maxHeartbeats 0 in
/-- The queries at the first point. -/
theorem qA : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => cOut (lin x0 x1 x2 x3 x4 x5 x6 x7 x8) x11 0 (y 0) (y 1) := by
  have key : View.PiecesOf (fun y => cOut (lin x0 x1 x2 x3 x4 x5 x6 x7 x8) x11 0 (y 0) (y 1)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250]
      generalize (lin x0 x1 x2 x3 x4 x5 x6 x7 x8) = Y
      refine cOut_eq Y x11 0 _ _ _ _ _ _ _ _ _ _ _ _ _ ?_ ?_ ?_ ?_ ?_
      · simp <;> omega
      · simp <;> omega
      · simp <;> omega
      · simp <;> omega
      · simp
  unfold out0_A_14
  rw [View.read_writes_junk_eq_canon]
  funext y
  exact View.canon_apply_of_pieces (fun y => cOut (lin x0 x1 x2 x3 x4 x5 x6 x7 x8) x11 0 (y 0) (y 1)) _ key.mem y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

end First

section Later
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : ¬cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32) (xo18 : Vec Ideal S2048x128 .f32) (xs2 : Vec Ideal S8x2064x128 .f32)
variable (hx : ∀ y : S8x2064x128.Idx, (y 1).val % 1032 < 8 → xs2 y = (0 : EReal))

set_option maxHeartbeats 0 in
include hx in
/-- The queries at a later point. -/
theorem qB : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => cOut (lin x0 x1 x2 x3 x4 x5 x6 x7 x8) x11 0 (y 0) (y 1) := by
  have key : View.PiecesOf (fun y => cOut (lin x0 x1 x2 x3 x4 x5 x6 x7 x8) x11 0 (y 0) (y 1)) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).1 := by
    unfold kernelRun0_B
    dsimp only
    simp (disch := first | decide | exact hx) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, o4, o12, o20, o28, b32', readW, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250]
      generalize (lin x0 x1 x2 x3 x4 x5 x6 x7 x8) = Y
      refine cOut_eq Y x11 0 _ _ _ _ _ _ _ _ _ _ _ _ _ ?_ ?_ ?_ ?_ ?_
      · simp <;> omega
      · simp <;> omega
      · simp <;> omega
      · simp <;> omega
      · simp
  unfold out0_B_14
  rw [View.read_writes_junk_eq_canon]
  funext y
  exact View.canon_apply_of_pieces (fun y => cOut (lin x0 x1 x2 x3 x4 x5 x6 x7 x8) x11 0 (y 0) (y 1)) _ key.mem y (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

end Later

end Cert.ProjectIdeal.OutQ
-- ==== Proof.OutK.lean ====
module

public import proofs.«01_k».proof.Proof.ConvOut

/-! What the projection stores of the keys. -/

@[expose] public section
set_option maxRecDepth 16384
noncomputable section
namespace Cert.ProjectIdeal.OutK
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load Cert.ProjectIdeal.ConvOut

section First
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32)

set_option maxHeartbeats 0 in
/-- The keys at the first point. -/
theorem kA : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => cOut (lin x0 x1 x2 x3 x4 x5 x6 x7 x8) x12 2 (y 0) (y 1) := by
  have key : View.PiecesOf (fun y => cOut (lin x0 x1 x2 x3 x4 x5 x6 x7 x8) x12 2 (y 0) (y 1)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).2.1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250]
      generalize (lin x0 x1 x2 x3 x4 x5 x6 x7 x8) = Y
      refine cOut_eq Y x12 2 _ _ _ _ _ _ _ _ _ _ _ _ _ ?_ ?_ ?_ ?_ ?_
      · simp <;> omega
      · simp <;> omega
      · simp <;> omega
      · simp <;> omega
      · simp
  unfold out0_A_15
  rw [View.read_writes_junk_eq_canon]
  funext y
  exact View.canon_apply_of_pieces (fun y => cOut (lin x0 x1 x2 x3 x4 x5 x6 x7 x8) x12 2 (y 0) (y 1)) _ key.mem y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

end First

section Later
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : ¬cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32) (xo18 : Vec Ideal S2048x128 .f32) (xs2 : Vec Ideal S8x2064x128 .f32)
variable (hx : ∀ y : S8x2064x128.Idx, (y 1).val % 1032 < 8 → xs2 y = (0 : EReal))

set_option maxHeartbeats 0 in
include hx in
/-- The keys at a later point. -/
theorem kB : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => cOut (lin x0 x1 x2 x3 x4 x5 x6 x7 x8) x12 2 (y 0) (y 1) := by
  have key : View.PiecesOf (fun y => cOut (lin x0 x1 x2 x3 x4 x5 x6 x7 x8) x12 2 (y 0) (y 1)) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).2.1 := by
    unfold kernelRun0_B
    dsimp only
    simp (disch := first | decide | exact hx) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, o4, o12, o20, o28, b32', readW, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250]
      generalize (lin x0 x1 x2 x3 x4 x5 x6 x7 x8) = Y
      refine cOut_eq Y x12 2 _ _ _ _ _ _ _ _ _ _ _ _ _ ?_ ?_ ?_ ?_ ?_
      · simp <;> omega
      · simp <;> omega
      · simp <;> omega
      · simp <;> omega
      · simp
  unfold out0_B_15
  rw [View.read_writes_junk_eq_canon]
  funext y
  exact View.canon_apply_of_pieces (fun y => cOut (lin x0 x1 x2 x3 x4 x5 x6 x7 x8) x12 2 (y 0) (y 1)) _ key.mem y (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

end Later

end Cert.ProjectIdeal.OutK
-- ==== Proof.OutV.lean ====
module

public import proofs.«01_k».proof.Proof.ConvOut

/-! What the projection stores of the values. -/

@[expose] public section
set_option maxRecDepth 16384
noncomputable section
namespace Cert.ProjectIdeal.OutV
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load Cert.ProjectIdeal.ConvOut

section First
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32)

set_option maxHeartbeats 0 in
/-- The values at the first point. -/
theorem vA : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => cOut (lin x0 x1 x2 x3 x4 x5 x6 x7 x8) x13 4 (y 0) (y 1) := by
  have key : View.PiecesOf (fun y => cOut (lin x0 x1 x2 x3 x4 x5 x6 x7 x8) x13 4 (y 0) (y 1)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).2.2.1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay1, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316]
      generalize (lin x0 x1 x2 x3 x4 x5 x6 x7 x8) = Y
      refine cOut_eq Y x13 4 _ _ _ _ _ _ _ _ _ _ _ _ _ ?_ ?_ ?_ ?_ ?_
      · simp <;> omega
      · simp <;> omega
      · simp <;> omega
      · simp <;> omega
      · simp
  unfold out0_A_16
  rw [View.read_writes_junk_eq_canon]
  funext y
  exact View.canon_apply_of_pieces (fun y => cOut (lin x0 x1 x2 x3 x4 x5 x6 x7 x8) x13 4 (y 0) (y 1)) _ key.mem y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

end First

section Later
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : ¬cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32) (xo18 : Vec Ideal S2048x128 .f32) (xs2 : Vec Ideal S8x2064x128 .f32)
variable (hx : ∀ y : S8x2064x128.Idx, (y 1).val % 1032 < 8 → xs2 y = (0 : EReal))

set_option maxHeartbeats 0 in
include hx in
/-- The values at a later point. -/
theorem vB : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => cOut (lin x0 x1 x2 x3 x4 x5 x6 x7 x8) x13 4 (y 0) (y 1) := by
  have key : View.PiecesOf (fun y => cOut (lin x0 x1 x2 x3 x4 x5 x6 x7 x8) x13 4 (y 0) (y 1)) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).2.2.1 := by
    unfold kernelRun0_B
    dsimp only
    simp (disch := first | decide | exact hx) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, o4, o12, o20, o28, b32', readW, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay1, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316]
      generalize (lin x0 x1 x2 x3 x4 x5 x6 x7 x8) = Y
      refine cOut_eq Y x13 4 _ _ _ _ _ _ _ _ _ _ _ _ _ ?_ ?_ ?_ ?_ ?_
      · simp <;> omega
      · simp <;> omega
      · simp <;> omega
      · simp <;> omega
      · simp
  unfold out0_B_16
  rw [View.read_writes_junk_eq_canon]
  funext y
  exact View.canon_apply_of_pieces (fun y => cOut (lin x0 x1 x2 x3 x4 x5 x6 x7 x8) x13 4 (y 0) (y 1)) _ key.mem y (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

end Later

end Cert.ProjectIdeal.OutV
-- ==== Proof.OutG.lean ====
module

public import proofs.«01_k».proof.Proof.ConvOut

/-! What the projection stores of the gate. -/

@[expose] public section
set_option maxRecDepth 16384
noncomputable section
namespace Cert.ProjectIdeal.OutG
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load Cert.ProjectIdeal.ConvOut

section First
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32)

set_option maxHeartbeats 0 in
/-- The gate at the first point. -/
theorem gA : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => gOut x0 (wF x1 x2 x3 x4 x5 x6 x7 x8) (y 0) (y 1) := by
  have key : View.PiecesOf (fun y => gOut x0 (wF x1 x2 x3 x4 x5 x6 x7 x8) (y 0) (y 1)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).2.2.2.1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay317, k0_pay318, k0_pay319, k0_pay320, k0_pay321]
      refine gOut_eq x0 (wF x1 x2 x3 x4 x5 x6 x7 x8) _ _ _ _ ?_ ?_
      · simp <;> omega
      · simp <;> omega
  unfold out0_A_17
  rw [View.read_writes_junk_eq_canon]
  funext y
  exact View.canon_apply_of_pieces (fun y => gOut x0 (wF x1 x2 x3 x4 x5 x6 x7 x8) (y 0) (y 1)) _ key.mem y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

end First

section Later
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : ¬cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32) (xo18 : Vec Ideal S2048x128 .f32) (xs2 : Vec Ideal S8x2064x128 .f32)
variable (hx : ∀ y : S8x2064x128.Idx, (y 1).val % 1032 < 8 → xs2 y = (0 : EReal))

set_option maxHeartbeats 0 in
/-- The gate at a later point. -/
theorem gB : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => gOut x0 (wF x1 x2 x3 x4 x5 x6 x7 x8) (y 0) (y 1) := by
  have key : View.PiecesOf (fun y => gOut x0 (wF x1 x2 x3 x4 x5 x6 x7 x8) (y 0) (y 1)) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).2.2.2.1 := by
    unfold kernelRun0_B
    dsimp only
    simp (disch := decide) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, b32', readW, View.PiecesOf]
    repeat' apply And.intro
    all_goals first | exact True.intro | skip
    all_goals (intro x; obtain ⟨r, k, rfl⟩ : ∃ (r : Fin _) (k : Fin _), x = ix2 r k := ⟨x 0, x 1, (ix2_eta x).symm⟩)
    all_goals
      pointwise [k0_pay317, k0_pay318, k0_pay319, k0_pay320, k0_pay321]
      refine gOut_eq x0 (wF x1 x2 x3 x4 x5 x6 x7 x8) _ _ _ _ ?_ ?_
      · simp <;> omega
      · simp <;> omega
  unfold out0_B_17
  rw [View.read_writes_junk_eq_canon]
  funext y
  exact View.canon_apply_of_pieces (fun y => gOut x0 (wF x1 x2 x3 x4 x5 x6 x7 x8) (y 0) (y 1)) _ key.mem y (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

end Later

end Cert.ProjectIdeal.OutG
-- ==== Proof.OutT.lean ====
module

public import proofs.«01_k».proof.Proof.ConvOut

/-! What the projection stores of the tails. -/

@[expose] public section
set_option maxRecDepth 16384
noncomputable section
namespace Cert.ProjectIdeal.OutT
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load Cert.ProjectIdeal.ConvOut

section First
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32)

set_option maxHeartbeats 0 in
/-- The tail of the queries at the first point. -/
theorem tqA : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => tOut (lin x0 x1 x2 x3 x4 x5 x6 x7 x8) 0 (y 0).val (y 1).val (y 2).val := by
  have key : View.PiecesOf (fun y => tOut (lin x0 x1 x2 x3 x4 x5 x6 x7 x8) 0 (y 0).val (y 1).val (y 2).val) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).2.2.2.2.2.1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨i, r, k, rfl⟩ : ∃ (i : Fin _) (r : Fin _) (k : Fin _), x = ix3 i r k := ⟨x 0, x 1, x 2, (ix3_eta x).symm⟩; obtain rfl : i = 0 := Subsingleton.elim _ _)
    all_goals
      pointwise [k0_pay1, k0_pay322, k0_pay323, k0_pay324, k0_pay325, k0_pay326, k0_pay327, k0_pay328, k0_pay329, k0_pay330, k0_pay331, k0_pay332, k0_pay333, k0_pay334, k0_pay335, k0_pay336, k0_pay337, k0_pay338]
      generalize (lin x0 x1 x2 x3 x4 x5 x6 x7 x8) = Y
      refine tOut_eq Y 0 _ _ _ _ _ _ ?_ ?_ ?_
      · simp <;> omega
      · simp <;> omega
      · simp <;> omega
  unfold out0_A_19
  rw [View.read_writes_junk_eq_canon]
  funext y
  exact View.canon_apply_of_pieces (fun y => tOut (lin x0 x1 x2 x3 x4 x5 x6 x7 x8) 0 (y 0).val (y 1).val (y 2).val) _ key.mem y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

set_option maxHeartbeats 0 in
/-- The tail of the keys at the first point. -/
theorem tkA : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => tOut (lin x0 x1 x2 x3 x4 x5 x6 x7 x8) 2 (y 0).val (y 1).val (y 2).val := by
  have key : View.PiecesOf (fun y => tOut (lin x0 x1 x2 x3 x4 x5 x6 x7 x8) 2 (y 0).val (y 1).val (y 2).val) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).2.2.2.2.2.2.1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨i, r, k, rfl⟩ : ∃ (i : Fin _) (r : Fin _) (k : Fin _), x = ix3 i r k := ⟨x 0, x 1, x 2, (ix3_eta x).symm⟩; obtain rfl : i = 0 := Subsingleton.elim _ _)
    all_goals
      pointwise [k0_pay1, k0_pay322, k0_pay323, k0_pay324, k0_pay325, k0_pay326, k0_pay327, k0_pay328, k0_pay329, k0_pay330, k0_pay331, k0_pay332, k0_pay333, k0_pay334, k0_pay335, k0_pay336, k0_pay337, k0_pay338]
      generalize (lin x0 x1 x2 x3 x4 x5 x6 x7 x8) = Y
      refine tOut_eq Y 2 _ _ _ _ _ _ ?_ ?_ ?_
      · simp <;> omega
      · simp <;> omega
      · simp <;> omega
  unfold out0_A_20
  rw [View.read_writes_junk_eq_canon]
  funext y
  exact View.canon_apply_of_pieces (fun y => tOut (lin x0 x1 x2 x3 x4 x5 x6 x7 x8) 2 (y 0).val (y 1).val (y 2).val) _ key.mem y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

set_option maxHeartbeats 0 in
/-- The tail of the values at the first point. -/
theorem tvA : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = fun y => tOut (lin x0 x1 x2 x3 x4 x5 x6 x7 x8) 4 (y 0).val (y 1).val (y 2).val := by
  have key : View.PiecesOf (fun y => tOut (lin x0 x1 x2 x3 x4 x5 x6 x7 x8) 4 (y 0).val (y 1).val (y 2).val) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13).2.2.2.2.2.2.2.1 := by
    unfold kernelRun0_A
    dsimp only
    simp (disch := decide) only [kernelRun0_A.sl.cst_1290, kernelRun0_A.sl.cst_1579, kernelRun0_A.sl.cst_970, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v, kernelRun0_A.sl.v0, kernelRun0_A.sl.v1213, kernelRun0_A.sl.v1214, kernelRun0_A.sl.v1215, kernelRun0_A.sl.v1218, kernelRun0_A.sl.v1241, kernelRun0_A.sl.v1245, kernelRun0_A.sl.v1250, kernelRun0_A.sl.v1256, kernelRun0_A.sl.v1262, kernelRun0_A.sl.v1282, kernelRun0_A.sl.v1287, kernelRun0_A.sl.v1293, kernelRun0_A.sl.v1299, kernelRun0_A.sl.v1349, kernelRun0_A.sl.v1354, kernelRun0_A.sl.v1360, kernelRun0_A.sl.v1366, kernelRun0_A.sl.v1386, kernelRun0_A.sl.v1391, kernelRun0_A.sl.v1397, kernelRun0_A.sl.v1403, kernelRun0_A.sl.v1477, kernelRun0_A.sl.v1481, kernelRun0_A.sl.v1486, kernelRun0_A.sl.v1492, kernelRun0_A.sl.v1498, kernelRun0_A.sl.v1518, kernelRun0_A.sl.v1523, kernelRun0_A.sl.v1529, kernelRun0_A.sl.v1535, kernelRun0_A.sl.v1585, kernelRun0_A.sl.v1590, kernelRun0_A.sl.v1596, kernelRun0_A.sl.v1602, kernelRun0_A.sl.v1622, kernelRun0_A.sl.v1627, kernelRun0_A.sl.v1633, kernelRun0_A.sl.v1639, kernelRun0_A.sl.v165, kernelRun0_A.sl.v1713, kernelRun0_A.sl.v1717, kernelRun0_A.sl.v1722, kernelRun0_A.sl.v1728, kernelRun0_A.sl.v1734, kernelRun0_A.sl.v1754, kernelRun0_A.sl.v1759, kernelRun0_A.sl.v1765, kernelRun0_A.sl.v1771, kernelRun0_A.sl.v1821, kernelRun0_A.sl.v1826, kernelRun0_A.sl.v1832, kernelRun0_A.sl.v1838, kernelRun0_A.sl.v1858, kernelRun0_A.sl.v1863, kernelRun0_A.sl.v1869, kernelRun0_A.sl.v1875, kernelRun0_A.sl.v1949, kernelRun0_A.sl.v1953, kernelRun0_A.sl.v1958, kernelRun0_A.sl.v1964, kernelRun0_A.sl.v1970, kernelRun0_A.sl.v1990, kernelRun0_A.sl.v1995, kernelRun0_A.sl.v2001, kernelRun0_A.sl.v2007, kernelRun0_A.sl.v2057, kernelRun0_A.sl.v2062, kernelRun0_A.sl.v2068, kernelRun0_A.sl.v2074, kernelRun0_A.sl.v2094, kernelRun0_A.sl.v2099, kernelRun0_A.sl.v2105, kernelRun0_A.sl.v2111, kernelRun0_A.sl.v2162, kernelRun0_A.sl.v2187, kernelRun0_A.sl.v2192, kernelRun0_A.sl.v2198, kernelRun0_A.sl.v2204, kernelRun0_A.sl.v2222, kernelRun0_A.sl.v2227, kernelRun0_A.sl.v2233, kernelRun0_A.sl.v2239, kernelRun0_A.sl.v2257, kernelRun0_A.sl.v2262, kernelRun0_A.sl.v2268, kernelRun0_A.sl.v2274, kernelRun0_A.sl.v2292, kernelRun0_A.sl.v2297, kernelRun0_A.sl.v2303, kernelRun0_A.sl.v2309, kernelRun0_A.sl.v2352, kernelRun0_A.sl.v2357, kernelRun0_A.sl.v2363, kernelRun0_A.sl.v2369, kernelRun0_A.sl.v2387, kernelRun0_A.sl.v2392, kernelRun0_A.sl.v2398, kernelRun0_A.sl.v2404, kernelRun0_A.sl.v2422, kernelRun0_A.sl.v2427, kernelRun0_A.sl.v2433, kernelRun0_A.sl.v2439, kernelRun0_A.sl.v2457, kernelRun0_A.sl.v2462, kernelRun0_A.sl.v2468, kernelRun0_A.sl.v2474, kernelRun0_A.sl.v2517, kernelRun0_A.sl.v2522, kernelRun0_A.sl.v2528, kernelRun0_A.sl.v2534, kernelRun0_A.sl.v2552, kernelRun0_A.sl.v2557, kernelRun0_A.sl.v2563, kernelRun0_A.sl.v2569, kernelRun0_A.sl.v2587, kernelRun0_A.sl.v2592, kernelRun0_A.sl.v2598, kernelRun0_A.sl.v2604, kernelRun0_A.sl.v2622, kernelRun0_A.sl.v2627, kernelRun0_A.sl.v2633, kernelRun0_A.sl.v2639, kernelRun0_A.sl.v2682, kernelRun0_A.sl.v2687, kernelRun0_A.sl.v2693, kernelRun0_A.sl.v2699, kernelRun0_A.sl.v2717, kernelRun0_A.sl.v2722, kernelRun0_A.sl.v2728, kernelRun0_A.sl.v2734, kernelRun0_A.sl.v2752, kernelRun0_A.sl.v2757, kernelRun0_A.sl.v2763, kernelRun0_A.sl.v2769, kernelRun0_A.sl.v2787, kernelRun0_A.sl.v2792, kernelRun0_A.sl.v2798, kernelRun0_A.sl.v2804, kernelRun0_A.sl.v2822, kernelRun0_A.sl.v2844, kernelRun0_A.sl.v2850, kernelRun0_A.sl.v2856, kernelRun0_A.sl.v2862, kernelRun0_A.sl.v2868, kernelRun0_A.sl.v2874, kernelRun0_A.sl.v2880, kernelRun0_A.sl.v2886, kernelRun0_A.sl.v2892, kernelRun0_A.sl.v2898, kernelRun0_A.sl.v2904, kernelRun0_A.sl.v2910, kernelRun0_A.sl.v2922, kernelRun0_A.sl.v2928, kernelRun0_A.sl.v2934, kernelRun0_A.sl.v2937, kernelRun0_A.sl.v3262, readAt_unread, a4, a8, a12, a16, a20, a24, a28, a32, a32', readWA, View.PiecesOf]
    repeat' apply And.intro
    all_goals first | exact True.intro | skip
    all_goals (intro x; obtain ⟨i, r, k, rfl⟩ : ∃ (i : Fin _) (r : Fin _) (k : Fin _), x = ix3 i r k := ⟨x 0, x 1, x 2, (ix3_eta x).symm⟩; obtain rfl : i = 0 := Subsingleton.elim _ _)
    all_goals
      pointwise [k0_pay1, k0_pay322, k0_pay323, k0_pay324, k0_pay325, k0_pay326, k0_pay327, k0_pay328, k0_pay329, k0_pay330, k0_pay331, k0_pay332, k0_pay333, k0_pay334, k0_pay335, k0_pay336, k0_pay337, k0_pay338]
      generalize (lin x0 x1 x2 x3 x4 x5 x6 x7 x8) = Y
      refine tOut_eq Y 4 _ _ _ _ _ _ ?_ ?_ ?_
      · simp <;> omega
      · simp <;> omega
      · simp <;> omega
  unfold out0_A_21
  rw [View.read_writes_junk_eq_canon]
  funext y
  exact View.canon_apply_of_pieces (fun y => tOut (lin x0 x1 x2 x3 x4 x5 x6 x7 x8) 4 (y 0).val (y 1).val (y 2).val) _ key.mem y (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y)

end First

section Later
variable (c : Dev nD) (i : grid0.Coords) (arg1 : Memref sig .tc .vmem S2048x2048 .bf16) (harg1 : arg1.IsWhole) (arg2 : Memref sig .tc .vmem S256x2048 .fp8e4m3) (harg2 : arg2.IsWhole) (arg3 : Memref sig .tc .vmem S256x64 .i8) (harg3 : arg3.IsWhole) (arg4 : Memref sig .tc .vmem S256x2048 .fp8e4m3) (harg4 : arg4.IsWhole) (arg5 : Memref sig .tc .vmem S256x64 .i8) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .fp8e4m3) (harg8 : arg8.IsWhole) (arg9 : Memref sig .tc .vmem S512x64 .i8) (harg9 : arg9.IsWhole) (arg10 : Memref sig .tc .vmem S128x2048 .fp8e4m3) (harg10 : arg10.IsWhole) (arg11 : Memref sig .tc .vmem S128x64 .i8) (harg11 : arg11.IsWhole) (arg12 : Memref sig .tc .vmem S4x256 .f32) (harg12 : arg12.IsWhole) (arg13 : Memref sig .tc .vmem S4x256 .f32) (harg13 : arg13.IsWhole) (arg14 : Memref sig .tc .vmem S4x512 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S2048x128 .f32) (harg19 : arg19.IsWhole) (arg20 : Memref sig .tc .vmem S2x3x256 .bf16) (harg20 : arg20.IsWhole) (arg21 : Memref sig .tc .vmem S2x3x256 .bf16) (harg21 : arg21.IsWhole) (arg22 : Memref sig .tc .vmem S2x3x512 .bf16) (harg22 : arg22.IsWhole) (arg23 : Memref sig .tc .vmem S1536x2048 .bf16) (harg23 : arg23.IsWhole) (arg24 : Memref sig .tc .vmem S128x2048 .bf16) (harg24 : arg24.IsWhole) (arg25 : Memref sig .tc .vmem S8x2064x128 .f32) (harg25 : arg25.IsWhole) (hc0 : ¬cond0_0 i)
    (x0 : Vec Ideal S2048x2048 .bf16) (x1 : Vec Ideal S256x2048 .fp8e4m3) (x2 : Vec Ideal S256x64 .i8) (x3 : Vec Ideal S256x2048 .fp8e4m3) (x4 : Vec Ideal S256x64 .i8) (x5 : Vec Ideal S512x2048 .fp8e4m3) (x6 : Vec Ideal S512x64 .i8) (x7 : Vec Ideal S512x2048 .fp8e4m3) (x8 : Vec Ideal S512x64 .i8) (x9 : Vec Ideal S128x2048 .fp8e4m3) (x10 : Vec Ideal S128x64 .i8) (x11 : Vec Ideal S4x256 .f32) (x12 : Vec Ideal S4x256 .f32) (x13 : Vec Ideal S4x512 .f32) (xo18 : Vec Ideal S2048x128 .f32) (xs2 : Vec Ideal S8x2064x128 .f32)
variable (hx : ∀ y : S8x2064x128.Idx, (y 1).val % 1032 < 8 → xs2 y = (0 : EReal))

set_option maxHeartbeats 0 in
/-- The tail of the queries at a later point. -/
theorem tqB : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => tOut (lin x0 x1 x2 x3 x4 x5 x6 x7 x8) 0 (y 0).val (y 1).val (y 2).val := by
  have key : View.PiecesOf (fun y => tOut (lin x0 x1 x2 x3 x4 x5 x6 x7 x8) 0 (y 0).val (y 1).val (y 2).val) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).2.2.2.2.2.1 := by
    unfold kernelRun0_B
    dsimp only
    simp (disch := decide) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, b32', readW, View.PiecesOf]
    repeat' apply And.intro
    all_goals first | exact True.intro | skip
    all_goals (intro x; obtain ⟨i, r, k, rfl⟩ : ∃ (i : Fin _) (r : Fin _) (k : Fin _), x = ix3 i r k := ⟨x 0, x 1, x 2, (ix3_eta x).symm⟩; obtain rfl : i = 0 := Subsingleton.elim _ _)
    all_goals
      pointwise [k0_pay1, k0_pay322, k0_pay323, k0_pay324, k0_pay325, k0_pay326, k0_pay327, k0_pay328, k0_pay329, k0_pay330, k0_pay331, k0_pay332, k0_pay333, k0_pay334, k0_pay335, k0_pay336, k0_pay337, k0_pay338]
      generalize (lin x0 x1 x2 x3 x4 x5 x6 x7 x8) = Y
      refine tOut_eq Y 0 _ _ _ _ _ _ ?_ ?_ ?_
      · simp <;> omega
      · simp <;> omega
      · simp <;> omega
  unfold out0_B_19
  rw [View.read_writes_junk_eq_canon]
  funext y
  exact View.canon_apply_of_pieces (fun y => tOut (lin x0 x1 x2 x3 x4 x5 x6 x7 x8) 0 (y 0).val (y 1).val (y 2).val) _ key.mem y (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

set_option maxHeartbeats 0 in
/-- The tail of the keys at a later point. -/
theorem tkB : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => tOut (lin x0 x1 x2 x3 x4 x5 x6 x7 x8) 2 (y 0).val (y 1).val (y 2).val := by
  have key : View.PiecesOf (fun y => tOut (lin x0 x1 x2 x3 x4 x5 x6 x7 x8) 2 (y 0).val (y 1).val (y 2).val) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).2.2.2.2.2.2.1 := by
    unfold kernelRun0_B
    dsimp only
    simp (disch := decide) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, b32', readW, View.PiecesOf]
    repeat' apply And.intro
    all_goals first | exact True.intro | skip
    all_goals (intro x; obtain ⟨i, r, k, rfl⟩ : ∃ (i : Fin _) (r : Fin _) (k : Fin _), x = ix3 i r k := ⟨x 0, x 1, x 2, (ix3_eta x).symm⟩; obtain rfl : i = 0 := Subsingleton.elim _ _)
    all_goals
      pointwise [k0_pay1, k0_pay322, k0_pay323, k0_pay324, k0_pay325, k0_pay326, k0_pay327, k0_pay328, k0_pay329, k0_pay330, k0_pay331, k0_pay332, k0_pay333, k0_pay334, k0_pay335, k0_pay336, k0_pay337, k0_pay338]
      generalize (lin x0 x1 x2 x3 x4 x5 x6 x7 x8) = Y
      refine tOut_eq Y 2 _ _ _ _ _ _ ?_ ?_ ?_
      · simp <;> omega
      · simp <;> omega
      · simp <;> omega
  unfold out0_B_20
  rw [View.read_writes_junk_eq_canon]
  funext y
  exact View.canon_apply_of_pieces (fun y => tOut (lin x0 x1 x2 x3 x4 x5 x6 x7 x8) 2 (y 0).val (y 1).val (y 2).val) _ key.mem y (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

set_option maxHeartbeats 0 in
/-- The tail of the values at a later point. -/
theorem tvB : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 = fun y => tOut (lin x0 x1 x2 x3 x4 x5 x6 x7 x8) 4 (y 0).val (y 1).val (y 2).val := by
  have key : View.PiecesOf (fun y => tOut (lin x0 x1 x2 x3 x4 x5 x6 x7 x8) 4 (y 0).val (y 1).val (y 2).val) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2).2.2.2.2.2.2.2.1 := by
    unfold kernelRun0_B
    dsimp only
    simp (disch := decide) only [kernelRun0_B.sl.cst_1290, kernelRun0_B.sl.cst_970, kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v, kernelRun0_B.sl.v0, kernelRun0_B.sl.v1213, kernelRun0_B.sl.v1214, kernelRun0_B.sl.v1215, kernelRun0_B.sl.v1218, kernelRun0_B.sl.v1245, kernelRun0_B.sl.v1250, kernelRun0_B.sl.v1256, kernelRun0_B.sl.v1262, kernelRun0_B.sl.v1282, kernelRun0_B.sl.v1287, kernelRun0_B.sl.v1293, kernelRun0_B.sl.v1299, kernelRun0_B.sl.v1349, kernelRun0_B.sl.v1354, kernelRun0_B.sl.v1360, kernelRun0_B.sl.v1366, kernelRun0_B.sl.v1386, kernelRun0_B.sl.v1391, kernelRun0_B.sl.v1397, kernelRun0_B.sl.v1403, kernelRun0_B.sl.v1477, kernelRun0_B.sl.v1481, kernelRun0_B.sl.v1486, kernelRun0_B.sl.v1492, kernelRun0_B.sl.v1498, kernelRun0_B.sl.v1518, kernelRun0_B.sl.v1523, kernelRun0_B.sl.v1529, kernelRun0_B.sl.v1535, kernelRun0_B.sl.v1585, kernelRun0_B.sl.v1590, kernelRun0_B.sl.v1596, kernelRun0_B.sl.v1602, kernelRun0_B.sl.v1622, kernelRun0_B.sl.v1627, kernelRun0_B.sl.v1633, kernelRun0_B.sl.v1639, kernelRun0_B.sl.v165, kernelRun0_B.sl.v1713, kernelRun0_B.sl.v1717, kernelRun0_B.sl.v1722, kernelRun0_B.sl.v1728, kernelRun0_B.sl.v1734, kernelRun0_B.sl.v1754, kernelRun0_B.sl.v1759, kernelRun0_B.sl.v1765, kernelRun0_B.sl.v1771, kernelRun0_B.sl.v1821, kernelRun0_B.sl.v1826, kernelRun0_B.sl.v1832, kernelRun0_B.sl.v1838, kernelRun0_B.sl.v1858, kernelRun0_B.sl.v1863, kernelRun0_B.sl.v1869, kernelRun0_B.sl.v1875, kernelRun0_B.sl.v1949, kernelRun0_B.sl.v1953, kernelRun0_B.sl.v1958, kernelRun0_B.sl.v1964, kernelRun0_B.sl.v1970, kernelRun0_B.sl.v1990, kernelRun0_B.sl.v1995, kernelRun0_B.sl.v2001, kernelRun0_B.sl.v2007, kernelRun0_B.sl.v2057, kernelRun0_B.sl.v2062, kernelRun0_B.sl.v2068, kernelRun0_B.sl.v2074, kernelRun0_B.sl.v2094, kernelRun0_B.sl.v2099, kernelRun0_B.sl.v2105, kernelRun0_B.sl.v2111, kernelRun0_B.sl.v2162, kernelRun0_B.sl.v2187, kernelRun0_B.sl.v2192, kernelRun0_B.sl.v2198, kernelRun0_B.sl.v2204, kernelRun0_B.sl.v2222, kernelRun0_B.sl.v2227, kernelRun0_B.sl.v2233, kernelRun0_B.sl.v2239, kernelRun0_B.sl.v2257, kernelRun0_B.sl.v2262, kernelRun0_B.sl.v2268, kernelRun0_B.sl.v2274, kernelRun0_B.sl.v2292, kernelRun0_B.sl.v2297, kernelRun0_B.sl.v2303, kernelRun0_B.sl.v2309, kernelRun0_B.sl.v2352, kernelRun0_B.sl.v2357, kernelRun0_B.sl.v2363, kernelRun0_B.sl.v2369, kernelRun0_B.sl.v2387, kernelRun0_B.sl.v2392, kernelRun0_B.sl.v2398, kernelRun0_B.sl.v2404, kernelRun0_B.sl.v2422, kernelRun0_B.sl.v2427, kernelRun0_B.sl.v2433, kernelRun0_B.sl.v2439, kernelRun0_B.sl.v2457, kernelRun0_B.sl.v2462, kernelRun0_B.sl.v2468, kernelRun0_B.sl.v2474, kernelRun0_B.sl.v2517, kernelRun0_B.sl.v2522, kernelRun0_B.sl.v2528, kernelRun0_B.sl.v2534, kernelRun0_B.sl.v2552, kernelRun0_B.sl.v2557, kernelRun0_B.sl.v2563, kernelRun0_B.sl.v2569, kernelRun0_B.sl.v2587, kernelRun0_B.sl.v2592, kernelRun0_B.sl.v2598, kernelRun0_B.sl.v2604, kernelRun0_B.sl.v2622, kernelRun0_B.sl.v2627, kernelRun0_B.sl.v2633, kernelRun0_B.sl.v2639, kernelRun0_B.sl.v2682, kernelRun0_B.sl.v2687, kernelRun0_B.sl.v2693, kernelRun0_B.sl.v2699, kernelRun0_B.sl.v2717, kernelRun0_B.sl.v2722, kernelRun0_B.sl.v2728, kernelRun0_B.sl.v2734, kernelRun0_B.sl.v2752, kernelRun0_B.sl.v2757, kernelRun0_B.sl.v2763, kernelRun0_B.sl.v2769, kernelRun0_B.sl.v2787, kernelRun0_B.sl.v2792, kernelRun0_B.sl.v2798, kernelRun0_B.sl.v2804, kernelRun0_B.sl.v2822, kernelRun0_B.sl.v2844, kernelRun0_B.sl.v2850, kernelRun0_B.sl.v2856, kernelRun0_B.sl.v2862, kernelRun0_B.sl.v2868, kernelRun0_B.sl.v2874, kernelRun0_B.sl.v2880, kernelRun0_B.sl.v2886, kernelRun0_B.sl.v2892, kernelRun0_B.sl.v2898, kernelRun0_B.sl.v2904, kernelRun0_B.sl.v2910, kernelRun0_B.sl.v2922, kernelRun0_B.sl.v2928, kernelRun0_B.sl.v2934, kernelRun0_B.sl.v2937, readAt_unread, b4, b8, b12, b16, b20, b24, b28, b32, b32', readW, View.PiecesOf]
    repeat' apply And.intro
    all_goals first | exact True.intro | skip
    all_goals (intro x; obtain ⟨i, r, k, rfl⟩ : ∃ (i : Fin _) (r : Fin _) (k : Fin _), x = ix3 i r k := ⟨x 0, x 1, x 2, (ix3_eta x).symm⟩; obtain rfl : i = 0 := Subsingleton.elim _ _)
    all_goals
      pointwise [k0_pay1, k0_pay322, k0_pay323, k0_pay324, k0_pay325, k0_pay326, k0_pay327, k0_pay328, k0_pay329, k0_pay330, k0_pay331, k0_pay332, k0_pay333, k0_pay334, k0_pay335, k0_pay336, k0_pay337, k0_pay338]
      generalize (lin x0 x1 x2 x3 x4 x5 x6 x7 x8) = Y
      refine tOut_eq Y 4 _ _ _ _ _ _ ?_ ?_ ?_
      · simp <;> omega
      · simp <;> omega
      · simp <;> omega
  unfold out0_B_21
  rw [View.read_writes_junk_eq_canon]
  funext y
  exact View.canon_apply_of_pieces (fun y => tOut (lin x0 x1 x2 x3 x4 x5 x6 x7 x8) 4 (y 0).val (y 1).val (y 2).val) _ key.mem y (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo18 xs2 y)

end Later

end Cert.ProjectIdeal.OutT
-- ==== Proof.ProjAt.lean ====
module

public import proofs.«01_k».proof.Proof.OutQ
public import proofs.«01_k».proof.Proof.OutK
public import proofs.«01_k».proof.Proof.OutV
public import proofs.«01_k».proof.Proof.OutG
public import proofs.«01_k».proof.Proof.OutT

/-! What every grid point of the projection leaves, in terms of its blocks. The product's array is carried from one point to the next:
its zero rows are written at the first point only, so that it holds the point's product is shown by induction over the points. -/

@[expose] public section
set_option maxRecDepth 16384
noncomputable section
namespace Cert.ProjectIdeal.At
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.Load Cert.ProjectIdeal.ConvOut
variable (m : (ℓ : Loc nD τ sig) → Buf (Elt Ideal) ℓ) (c : Dev nD)

/-- The product of the activations with point `t`'s rows of the weights, as the kernel lays it out. -/
def linAt (t : Fin cfg0.N) : Vec Ideal S8x2064x128 .f32 :=
  lin (iblk m c 0 t) (iblk m c 1 t) (iblk m c 2 t) (iblk m c 3 t) (iblk m c 4 t) (iblk m c 5 t) (iblk m c 6 t) (iblk m c 7 t) (iblk m c 8 t)

/-- The product's array holds the point's product after every point. -/
theorem scratch : ∀ (n : ℕ) (hn : n < cfg0.N), (outsAt0 m c n hn).2.2.2.2.2.2.2.2 = linAt m c ⟨n, hn⟩ := by
  intro n
  induction n with
  | zero =>
    intro hn
    refine (congrArg (fun p => p.2.2.2.2.2.2.2.2) (outsAt0_A m c ⟨0, hn⟩ rfl)).trans ?_
    dsimp only
    unfold sout0_A_2
    rw [View.read_writes_junk_eq_canon]
    exact scrA ..
  | succ n ih =>
    intro hn
    have hN : n + 1 < 6 := lt_of_lt_of_eq hn N_0
    refine (congrArg (fun p => p.2.2.2.2.2.2.2.2) (outsAt0_B m c ⟨n + 1, hn⟩ (by show ¬(n + 1) % 6 = 0; omega))).trans ?_
    dsimp only
    unfold sout0_B_2
    refine scrB (hx := ?_) ..
    intro y hy
    refine (congrFun (ih (Nat.lt_of_succ_lt hn)) y).trans ?_
    exact lin_pad _ _ _ _ _ _ _ _ _ y hy

/-- The zero rows a later point finds. -/
theorem pad_before (t : Fin cfg0.N) (h : t.val - 1 < cfg0.N) (y : S8x2064x128.Idx) (hy : (y 1).val % 1032 < 8) :
    (outsAt0 m c (t.val - 1) h).2.2.2.2.2.2.2.2 y = (0 : EReal) :=
  (congrFun (scratch m c (t.val - 1) h) y).trans (lin_pad _ _ _ _ _ _ _ _ _ y hy)

/-- A point's block of the queries. -/
theorem q_at (t : Fin cfg0.N) : (outsAt0 m c t.val t.isLt).1 = fun y => cOut (linAt m c t) (iblk m c 11 t) 0 (y 0) (y 1) := by
  by_cases h0 : t.val % 6 = 0
  · rw [outsAt0_A m c t h0]
    dsimp only
    exact OutQ.qA ..
  · rw [outsAt0_B m c t h0]
    dsimp only
    exact OutQ.qB (hx := fun y hy => pad_before m c t _ y hy) ..

/-- A point's block of the keys. -/
theorem k_at (t : Fin cfg0.N) : (outsAt0 m c t.val t.isLt).2.1 = fun y => cOut (linAt m c t) (iblk m c 12 t) 2 (y 0) (y 1) := by
  by_cases h0 : t.val % 6 = 0
  · rw [outsAt0_A m c t h0]
    dsimp only
    exact OutK.kA ..
  · rw [outsAt0_B m c t h0]
    dsimp only
    exact OutK.kB (hx := fun y hy => pad_before m c t _ y hy) ..

/-- A point's block of the values. -/
theorem v_at (t : Fin cfg0.N) : (outsAt0 m c t.val t.isLt).2.2.1 = fun y => cOut (linAt m c t) (iblk m c 13 t) 4 (y 0) (y 1) := by
  by_cases h0 : t.val % 6 = 0
  · rw [outsAt0_A m c t h0]
    dsimp only
    exact OutV.vA ..
  · rw [outsAt0_B m c t h0]
    dsimp only
    exact OutV.vB (hx := fun y hy => pad_before m c t _ y hy) ..

/-- A point's block of the gate. -/
theorem g_at (t : Fin cfg0.N) : (outsAt0 m c t.val t.isLt).2.2.2.1 = fun y => gOut (iblk m c 0 t) (wF (iblk m c 1 t) (iblk m c 2 t) (iblk m c 3 t) (iblk m c 4 t) (iblk m c 5 t) (iblk m c 6 t) (iblk m c 7 t) (iblk m c 8 t)) (y 0) (y 1) := by
  by_cases h0 : t.val % 6 = 0
  · rw [outsAt0_A m c t h0]
    dsimp only
    exact OutG.gA ..
  · rw [outsAt0_B m c t h0]
    dsimp only
    exact OutG.gB ..

/-- A point's block of the tail of the queries. -/
theorem tq_at (t : Fin cfg0.N) : (outsAt0 m c t.val t.isLt).2.2.2.2.2.1 = fun y => tOut (linAt m c t) 0 (y 0).val (y 1).val (y 2).val := by
  by_cases h0 : t.val % 6 = 0
  · rw [outsAt0_A m c t h0]
    dsimp only
    exact OutT.tqA ..
  · rw [outsAt0_B m c t h0]
    dsimp only
    exact OutT.tqB ..

/-- A point's block of the tail of the keys. -/
theorem tk_at (t : Fin cfg0.N) : (outsAt0 m c t.val t.isLt).2.2.2.2.2.2.1 = fun y => tOut (linAt m c t) 2 (y 0).val (y 1).val (y 2).val := by
  by_cases h0 : t.val % 6 = 0
  · rw [outsAt0_A m c t h0]
    dsimp only
    exact OutT.tkA ..
  · rw [outsAt0_B m c t h0]
    dsimp only
    exact OutT.tkB ..

/-- A point's block of the tail of the values. -/
theorem tv_at (t : Fin cfg0.N) : (outsAt0 m c t.val t.isLt).2.2.2.2.2.2.2.1 = fun y => tOut (linAt m c t) 4 (y 0).val (y 1).val (y 2).val := by
  by_cases h0 : t.val % 6 = 0
  · rw [outsAt0_A m c t h0]
    dsimp only
    exact OutT.tvA ..
  · rw [outsAt0_B m c t h0]
    dsimp only
    exact OutT.tvB ..

end Cert.ProjectIdeal.At
-- ==== Proof.ProjBlocks.lean ====
module

public import proofs.«01_k».proof.Proof.Gen.ProjectIdeal.Value
public import Idealize.ShloMosaic.Lib.Pointwise
public import Idealize.ShloMosaic.Lib.Pipeline.ReadBack
public import proofs.«01_k».proof.Proof.Conv

/-! The blocks of the projections' grid points in terms of the arguments. -/

@[expose] public section
set_option maxRecDepth 16384
noncomputable section
namespace Cert.ProjectIdeal.Blocks
open Cert.ProjectIdeal Cert.ProjectIdeal.Gen Idealize.ShloMosaic Idealize.ShloMosaic.TcCoe
open Idealize.SL.Sem
variable (m : (ℓ : Loc nD τ sig) → Buf (Elt Ideal) ℓ) (c : Dev nD)

/-- The block indices at each of the six points. -/
theorem idx : ∀ t : Fin cfg0.N, win0_0.index t = ![0, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_11.index t = ![0, t.val] ∧ win0_12.index t = ![0, t.val]
    ∧ win0_13.index t = ![0, t.val] ∧ win0_14.index t = ![0, t.val] ∧ win0_15.index t = ![0, t.val] ∧ win0_16.index t = ![0, t.val]
    ∧ win0_17.index t = ![0, t.val] ∧ win0_19.index t = ![0, 0, t.val] ∧ win0_20.index t = ![0, 0, t.val]
    ∧ win0_21.index t = ![0, 0, t.val] :=
  (by decide +kernel : ∀ t : Fin grid0.N, _)

/-- There are six grid points. -/
theorem lt (t : Fin cfg0.N) : t.val < 6 := lt_of_lt_of_eq t.isLt N_0

/-- The input's rows, the two sequences one after the other. -/
theorem x_blk (t : Fin cfg0.N) (r k : Fin 2048) : iblk m c 0 t (ix2 r k)
    = m ((c : Thread nD τ).loc main_arg0) (ix3 ⟨r.val / 1024, by omega⟩ ⟨r.val % 1024, by omega⟩ k) := by
  blk_ext! [iblk, V, idx t]

/-- The point's rows of the query weight's codes. -/
theorem wq_blk (t : Fin cfg0.N) (r : Fin 256) (k : Fin 2048) : iblk m c 1 t (ix2 r k)
    = m ((c : Thread nD τ).loc main_arg1) (ix2 ⟨t.val * 256 + r.val, by have := lt t; omega⟩ k) := by
  blk_ext! [iblk, V_main_arg1, idx t]
/-- The point's rows of the query weight's scale bytes. -/
theorem sq_blk (t : Fin cfg0.N) (r : Fin 256) (k : Fin 64) : iblk m c 2 t (ix2 r k)
    = m ((c : Thread nD τ).loc main_arg2) (ix2 ⟨t.val * 256 + r.val, by have := lt t; omega⟩ k) := by
  blk_ext! [iblk, V_main_arg2, idx t]
/-- The point's rows of the key weight's codes. -/
theorem wk_blk (t : Fin cfg0.N) (r : Fin 256) (k : Fin 2048) : iblk m c 3 t (ix2 r k)
    = m ((c : Thread nD τ).loc main_arg3) (ix2 ⟨t.val * 256 + r.val, by have := lt t; omega⟩ k) := by
  blk_ext! [iblk, V_main_arg3, idx t]
/-- The point's rows of the key weight's scale bytes. -/
theorem sk_blk (t : Fin cfg0.N) (r : Fin 256) (k : Fin 64) : iblk m c 4 t (ix2 r k)
    = m ((c : Thread nD τ).loc main_arg4) (ix2 ⟨t.val * 256 + r.val, by have := lt t; omega⟩ k) := by
  blk_ext! [iblk, V_main_arg4, idx t]
/-- The point's rows of the value weight's codes. -/
theorem wv_blk (t : Fin cfg0.N) (r : Fin 512) (k : Fin 2048) : iblk m c 5 t (ix2 r k)
    = m ((c : Thread nD τ).loc main_arg5) (ix2 ⟨t.val * 512 + r.val, by have := lt t; omega⟩ k) := by
  blk_ext! [iblk, V_main_arg5, idx t]
/-- The point's rows of the value weight's scale bytes. -/
theorem sv_blk (t : Fin cfg0.N) (r : Fin 512) (k : Fin 64) : iblk m c 6 t (ix2 r k)
    = m ((c : Thread nD τ).loc main_arg6) (ix2 ⟨t.val * 512 + r.val, by have := lt t; omega⟩ k) := by
  blk_ext! [iblk, V_main_arg6, idx t]
/-- The point's rows of the gate weight's codes. -/
theorem wg_blk (t : Fin cfg0.N) (r : Fin 512) (k : Fin 2048) : iblk m c 7 t (ix2 r k)
    = m ((c : Thread nD τ).loc main_arg7) (ix2 ⟨t.val * 512 + r.val, by have := lt t; omega⟩ k) := by
  blk_ext! [iblk, V_main_arg7, idx t]
/-- The point's rows of the gate weight's scale bytes. -/
theorem sg_blk (t : Fin cfg0.N) (r : Fin 512) (k : Fin 64) : iblk m c 8 t (ix2 r k)
    = m ((c : Thread nD τ).loc main_arg8) (ix2 ⟨t.val * 512 + r.val, by have := lt t; omega⟩ k) := by
  blk_ext! [iblk, V_main_arg8, idx t]
/-- The point's columns of the query taps, transposed. -/
theorem cq_blk (t : Fin cfg0.N) (i : Fin 4) (n : Fin 256) : iblk m c 11 t (ix2 i n)
    = m ((c : Thread nD τ).loc main_arg13) (ix2 ⟨t.val * 256 + n.val, by have := lt t; omega⟩ i) := by
  blk_ext! [iblk, V, idx t]
/-- The point's columns of the key taps, transposed. -/
theorem ck_blk (t : Fin cfg0.N) (i : Fin 4) (n : Fin 256) : iblk m c 12 t (ix2 i n)
    = m ((c : Thread nD τ).loc main_arg14) (ix2 ⟨t.val * 256 + n.val, by have := lt t; omega⟩ i) := by
  blk_ext! [iblk, V, idx t]
/-- The point's columns of the value taps, transposed. -/
theorem cv_blk (t : Fin cfg0.N) (i : Fin 4) (n : Fin 512) : iblk m c 13 t (ix2 i n)
    = m ((c : Thread nD τ).loc main_arg15) (ix2 ⟨t.val * 512 + n.val, by have := lt t; omega⟩ i) := by
  blk_ext! [iblk, V, idx t]

end Cert.ProjectIdeal.Blocks
-- ==== Proof.ProjRef.lean ====
module

public import proofs.«01_k».proof.Proof.Gen.ProjectReferenceIdeal.Value
public import Idealize.ShloMosaic.Lib.Pointwise
public import proofs.«01_k».proof.Proof.Conv

/-! What the reference of the projections computes, entry by entry. -/

@[expose] public section
set_option maxRecDepth 16384
noncomputable section
namespace Cert.ProjectReferenceIdeal.RefValue
open Cert.ProjectReferenceIdeal Cert.ProjectReferenceIdeal.Gen Cert.ProjectReferenceIdeal.Value Idealize.ShloMosaic
open Idealize.ShloMosaic.TcCoe Idealize.SL.Sem
open Cert.Factor Cert.Conv

/-- Row `(b, t)` of the input against row `n` of a weight. -/
def lin {N : ℕ} (x : Vec Ideal S2x1024x2048 .bf16) (w : Vec Ideal ⟨2, ![N, 2048]⟩ .fp8e4m3)
    (s : Vec Ideal ⟨2, ![N, 64]⟩ .i8) (b : Fin 2) (n : Fin N) (t : Fin 1024) : EReal :=
  entry (fun k => x (ix3 b t k)) (fun k => w (ix2 n k)) (fun g => s (ix2 n g))

/-- The query's projection. -/
theorem lin_q (x : Vec Ideal S2x1024x2048 .bf16) (w : Vec Ideal S1536x2048 .fp8e4m3) (s : Vec Ideal S1536x64 .i8)
    (b : Fin 2) (t : Fin 1024) (n : Fin 1536) : k0_pay5 s w x (ix3 b t n) = lin x w s b n t := by
  unfold lin entry
  simp only [← ref_factor]
  pointwise [k0_pay5]

/-- The key's projection. -/
theorem lin_k (x : Vec Ideal S2x1024x2048 .bf16) (w : Vec Ideal S1536x2048 .fp8e4m3) (s : Vec Ideal S1536x64 .i8)
    (b : Fin 2) (t : Fin 1024) (n : Fin 1536) :
    k0_pay10 (k0_pay7 s) (k0_pay8 s) (k0_pay9 (F := Ideal)) w x (ix3 b t n) = lin x w s b n t := by
  unfold lin entry
  simp only [← ref_factor]
  pointwise [k0_pay10, k0_pay7, k0_pay8, k0_pay9, k0_pay6]

/-- The value's projection. -/
theorem lin_v (x : Vec Ideal S2x1024x2048 .bf16) (w : Vec Ideal S3072x2048 .fp8e4m3) (s : Vec Ideal S3072x64 .i8)
    (b : Fin 2) (t : Fin 1024) (n : Fin 3072) : k0_pay11 s w x (ix3 b t n) = lin x w s b n t := by
  unfold lin entry
  simp only [← ref_factor]
  pointwise [k0_pay11]

/-- The gate's projection, its rows one after the other. -/
theorem lin_g (x : Vec Ideal S2x1024x2048 .bf16) (w : Vec Ideal S3072x2048 .fp8e4m3) (s : Vec Ideal S3072x64 .i8)
    (r : Fin 2048) (n : Fin 3072) :
    k0_pay12 s w x (ix2 r n) = lin x w s ⟨r.val / 1024, by omega⟩ n ⟨r.val % 1024, by omega⟩ := by
  unfold lin entry
  simp only [← ref_factor]
  pointwise [k0_pay12]

/-- The convolution with its four past entries written out. -/
theorem conv_eq (L : Fin 1024 → EReal) (c : Fin 4 → EReal) (t : Fin 1024) : conv L c t.val
    = silu ((if h : t.val < 3 then 0 else L ⟨t.val - 3, by omega⟩) * c 0
        + (if h : 1 + t.val < 3 then 0 else L ⟨1 + t.val - 3, by omega⟩) * c 1
        + (if h : 2 + t.val < 3 then 0 else L ⟨2 + t.val - 3, by omega⟩) * c 2 + L t * c 3) := by
  have key : ∀ i (hi : i ≤ 3), past L (t.val + i) = if h : i + t.val < 3 then 0 else L ⟨i + t.val - 3, by omega⟩ := by
    intro i hi
    unfold past
    by_cases h : i + t.val < 3
    · rw [dif_neg (by omega), dif_pos h]
    · rw [dif_pos (by omega), dif_neg h]; congr 2; omega
  unfold conv
  have k0 : past L t.val = if h : t.val < 3 then 0 else L ⟨t.val - 3, by omega⟩ := by
    unfold past
    by_cases h : t.val < 3
    · rw [dif_neg (by omega), dif_pos h]
    · rw [dif_pos (by omega), dif_neg h]
  have k3 : past L (t.val + 3) = L t := by
    unfold past
    rw [dif_pos (by omega)]; rfl
  rw [key 1 (by omega), key 2 (by omega), k3, k0]

/-- The query's convolution. -/
theorem conv_q (L : FVec Ideal S2x1024x1536 .bf16) (c : Vec Ideal S4x1536 .f32) (r : Fin 2048) (n : Fin 1536) :
    k0_pay16 (k0_pay13 L) (k0_pay14 L (View.ld c r0_6)) (k0_pay15 L) (View.ld c r0_7) (View.ld c r0_8) (View.ld c r0_9) (ix2 r n)
      = conv (fun t => L (ix3 ⟨r.val / 1024, by omega⟩ t n)) (fun i => c (ix2 i n)) (r.val % 1024) := by
  refine Eq.trans ?_ (conv_eq _ _ ⟨r.val % 1024, by omega⟩).symm
  unfold silu
  pointwise [k0_pay16, k0_pay13, k0_pay14, k0_pay15]

/-- The key's convolution. -/
theorem conv_k (L : FVec Ideal S2x1024x1536 .bf16) (c : Vec Ideal S4x1536 .f32) (r : Fin 2048) (n : Fin 1536) :
    k0_pay21 (k0_pay17 L) (k0_pay18 L (View.ld c r0_6) (View.ld c r0_7)) (k0_pay19 L) (k0_pay20 (View.ld c r0_8)) (View.ld c r0_9) (ix2 r n)
      = conv (fun t => L (ix3 ⟨r.val / 1024, by omega⟩ t n)) (fun i => c (ix2 i n)) (r.val % 1024) := by
  refine Eq.trans ?_ (conv_eq _ _ ⟨r.val % 1024, by omega⟩).symm
  unfold silu
  pointwise [k0_pay21, k0_pay17, k0_pay18, k0_pay19, k0_pay20]

/-- The value's convolution. -/
theorem conv_v (L : FVec Ideal S2x1024x3072 .bf16) (c : Vec Ideal S4x3072 .f32) (r : Fin 2048) (n : Fin 3072) :
    k0_pay1 (k0_pay22 L (View.ld c r0_11) (View.ld c r0_12) (View.ld c r0_13) (View.ld c r0_14)) (ix2 r n)
      = conv (fun t => L (ix3 ⟨r.val / 1024, by omega⟩ t n)) (fun i => c (ix2 i n)) (r.val % 1024) := by
  refine Eq.trans ?_ (conv_eq _ _ ⟨r.val % 1024, by omega⟩).symm
  unfold silu
  pointwise [k0_pay1, k0_pay22]

/-- The tails: the last three entries of each sequence. -/
theorem tail_q (L : FVec Ideal S2x1024x1536 .bf16) (b : Fin 2) (j : Fin 3) (n : Fin 1536) :
    k0_pay2 L (ix3 b j n) = L (ix3 b ⟨1021 + j.val, by omega⟩ n) := by
  pointwise [k0_pay2]

/-- The key's tail. -/
theorem tail_k (L : FVec Ideal S2x1024x1536 .bf16) (b : Fin 2) (j : Fin 3) (n : Fin 1536) :
    k0_pay3 L (ix3 b j n) = L (ix3 b ⟨1021 + j.val, by omega⟩ n) := by
  pointwise [k0_pay3]

/-- The value's tail. -/
theorem tail_v (L : FVec Ideal S2x1024x3072 .bf16) (b : Fin 2) (j : Fin 3) (n : Fin 3072) :
    k0_pay4 L (ix3 b j n) = L (ix3 b ⟨1021 + j.val, by omega⟩ n) := by
  pointwise [k0_pay4]

variable (m : (ℓ : Loc nD τ sig) → Buf (Elt Ideal) ℓ) (c : Dev nD)

/-- The block indices at the only point. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0, 0] ∧ win0_17.index t = ![0, 0, 0] ∧ win0_18.index t = ![0, 0, 0] :=
  (by decide +kernel : ∀ t : Fin grid0.N, _)

/-- One row of a projection as an array of the arguments: sequence `b`, output `n`. -/
def Q (b : Fin 2) (n : Fin 1536) : Fin 1024 → EReal := lin (m ((c : Thread nD τ).loc main_arg0))
    (m ((c : Thread nD τ).loc main_arg1)) (m ((c : Thread nD τ).loc main_arg2)) b n
/-- The key's projection, as a sequence. -/
def K (b : Fin 2) (n : Fin 1536) : Fin 1024 → EReal := lin (m ((c : Thread nD τ).loc main_arg0))
    (m ((c : Thread nD τ).loc main_arg3)) (m ((c : Thread nD τ).loc main_arg4)) b n
/-- The value's projection, as a sequence. -/
def W (b : Fin 2) (n : Fin 3072) : Fin 1024 → EReal := lin (m ((c : Thread nD τ).loc main_arg0))
    (m ((c : Thread nD τ).loc main_arg5)) (m ((c : Thread nD τ).loc main_arg6)) b n
/-- The gate's projection, as a sequence. -/
def Gt (b : Fin 2) (n : Fin 3072) : Fin 1024 → EReal := lin (m ((c : Thread nD τ).loc main_arg0))
    (m ((c : Thread nD τ).loc main_arg7)) (m ((c : Thread nD τ).loc main_arg8)) b n

/-- The arrays that the body's blocks are: the arguments, the taps transposed. -/
theorem x_blk (t : Fin cfg0.N) : iblk m c 0 t = m ((c : Thread nD τ).loc main_arg0) := by
  blk_ext! [iblk, V_main_arg0, idx t]
/-- The query weight's codes are one whole block. -/
theorem wq_blk (t : Fin cfg0.N) : iblk m c 1 t = m ((c : Thread nD τ).loc main_arg1) := by
  blk_ext! [iblk, V_main_arg1, idx t]
/-- The query weight's scale bytes are one whole block. -/
theorem sq_blk (t : Fin cfg0.N) : iblk m c 2 t = m ((c : Thread nD τ).loc main_arg2) := by
  blk_ext! [iblk, V_main_arg2, idx t]
/-- The key weight's codes are one whole block. -/
theorem wk_blk (t : Fin cfg0.N) : iblk m c 3 t = m ((c : Thread nD τ).loc main_arg3) := by
  blk_ext! [iblk, V_main_arg3, idx t]
/-- The key weight's scale bytes are one whole block. -/
theorem sk_blk (t : Fin cfg0.N) : iblk m c 4 t = m ((c : Thread nD τ).loc main_arg4) := by
  blk_ext! [iblk, V_main_arg4, idx t]
/-- The value weight's codes are one whole block. -/
theorem wv_blk (t : Fin cfg0.N) : iblk m c 5 t = m ((c : Thread nD τ).loc main_arg5) := by
  blk_ext! [iblk, V_main_arg5, idx t]
/-- The value weight's scale bytes are one whole block. -/
theorem sv_blk (t : Fin cfg0.N) : iblk m c 6 t = m ((c : Thread nD τ).loc main_arg6) := by
  blk_ext! [iblk, V_main_arg6, idx t]
/-- The gate weight's codes are one whole block. -/
theorem wg_blk (t : Fin cfg0.N) : iblk m c 7 t = m ((c : Thread nD τ).loc main_arg7) := by
  blk_ext! [iblk, V_main_arg7, idx t]
/-- The gate weight's scale bytes are one whole block. -/
theorem sg_blk (t : Fin cfg0.N) : iblk m c 8 t = m ((c : Thread nD τ).loc main_arg8) := by
  blk_ext! [iblk, V_main_arg8, idx t]
/-- The query taps, transposed, are one whole block. -/
theorem cq_blk (t : Fin cfg0.N) (i : Fin 4) (n : Fin 1536) :
    iblk m c 9 t (ix2 i n) = m ((c : Thread nD τ).loc main_arg13) (ix2 n i) := by
  blk_ext! [iblk, V, idx t]
/-- The key taps, transposed, are one whole block. -/
theorem ck_blk (t : Fin cfg0.N) (i : Fin 4) (n : Fin 1536) :
    iblk m c 10 t (ix2 i n) = m ((c : Thread nD τ).loc main_arg14) (ix2 n i) := by
  blk_ext! [iblk, V, idx t]
/-- The value taps, transposed, are one whole block. -/
theorem cv_blk (t : Fin cfg0.N) (i : Fin 4) (n : Fin 3072) :
    iblk m c 11 t (ix2 i n) = m ((c : Thread nD τ).loc main_arg15) (ix2 n i) := by
  blk_ext! [iblk, V, idx t]
/-- The query result is one whole block. -/
theorem q_emb (t : Fin cfg0.N) (r : Fin 2048) (n : Fin 1536) :
    ((cfg0.win 12).blk t).view.emb (ix2 r n) = (ix2 r n : S2048x1536.Idx) := by
  funext a; apply Fin.ext; fin_cases a <;> blk_simp [idx t]
/-- The key result is one whole block. -/
theorem k_emb (t : Fin cfg0.N) (r : Fin 2048) (n : Fin 1536) :
    ((cfg0.win 13).blk t).view.emb (ix2 r n) = (ix2 r n : S2048x1536.Idx) := by
  funext a; apply Fin.ext; fin_cases a <;> blk_simp [idx t]
/-- The value result is one whole block. -/
theorem v_emb (t : Fin cfg0.N) (r : Fin 2048) (n : Fin 3072) :
    ((cfg0.win 14).blk t).view.emb (ix2 r n) = (ix2 r n : S2048x3072.Idx) := by
  funext a; apply Fin.ext; fin_cases a <;> blk_simp [idx t]
/-- The gate result is one whole block. -/
theorem g_emb (t : Fin cfg0.N) (r : Fin 2048) (n : Fin 3072) :
    ((cfg0.win 15).blk t).view.emb (ix2 r n) = (ix2 r n : S2048x3072.Idx) := by
  funext a; apply Fin.ext; fin_cases a <;> blk_simp [idx t]
/-- The tail of the query is one whole block. -/
theorem tq_emb (t : Fin cfg0.N) (b : Fin 2) (j : Fin 3) (n : Fin 1536) :
    ((cfg0.win 16).blk t).view.emb (ix3 b j n) = (ix3 b j n : S2x3x1536.Idx) := by
  funext a; apply Fin.ext; fin_cases a <;> blk_simp [idx t]
/-- The tail of the key is one whole block. -/
theorem tk_emb (t : Fin cfg0.N) (b : Fin 2) (j : Fin 3) (n : Fin 1536) :
    ((cfg0.win 17).blk t).view.emb (ix3 b j n) = (ix3 b j n : S2x3x1536.Idx) := by
  funext a; apply Fin.ext; fin_cases a <;> blk_simp [idx t]
/-- The tail of the value is one whole block. -/
theorem tv_emb (t : Fin cfg0.N) (b : Fin 2) (j : Fin 3) (n : Fin 3072) :
    ((cfg0.win 18).blk t).view.emb (ix3 b j n) = (ix3 b j n : S2x3x3072.Idx) := by
  funext a; apply Fin.ext; fin_cases a <;> blk_simp [idx t]

/-- The query array after the run: the convolution of the projection's columns. -/
theorem q_arr (r : Fin 2048) (n : Fin 1536) : ((dats m 0 c).arrAt 12 cfg0.N : S2048x1536.Idx → EReal) (ix2 r n)
    = conv (Q m c ⟨r.val / 1024, by omega⟩ n) (fun k => m ((c : Thread nD τ).loc main_arg13) (ix2 n k)) (r.val % 1024) := by
  refine congrFun ((dats m 0 c).arrAt_eq_of_covers 12 (fun i : S2048x1536.Idx => conv (Q m c (⟨(i 0).val / 1024,
    by have h := (i 0).isLt; change (i 0).val < 2048 at h; omega⟩ : Fin 2) (i 1))
    (fun k => m ((c : Thread nD τ).loc main_arg13) (ix2 (i 1) k)) ((i 0).val % 1024)) (by decide +kernel) fun t hf y => ?_) (ix2 r n)
  obtain ⟨r, n, rfl⟩ : ∃ (r : Fin 2048) (n : Fin 1536), y = ix2 r n := ⟨y 0, y 1, (ix2_eta y).symm⟩
  rw [q_emb]
  blk_simp
  rw [after0_12]
  frame_out
  rw [conv_q]
  unfold k0_pay23
  simp only [x_blk, wq_blk, sq_blk, cq_blk]
  frame_out
  simp only [lin_q]
  rfl

/-- The key array after the run: the convolution of the projection's columns. -/
theorem k_arr (r : Fin 2048) (n : Fin 1536) : ((dats m 0 c).arrAt 13 cfg0.N : S2048x1536.Idx → EReal) (ix2 r n)
    = conv (K m c ⟨r.val / 1024, by omega⟩ n) (fun k => m ((c : Thread nD τ).loc main_arg14) (ix2 n k)) (r.val % 1024) := by
  refine congrFun ((dats m 0 c).arrAt_eq_of_covers 13 (fun i : S2048x1536.Idx => conv (K m c (⟨(i 0).val / 1024,
    by have h := (i 0).isLt; change (i 0).val < 2048 at h; omega⟩ : Fin 2) (i 1))
    (fun k => m ((c : Thread nD τ).loc main_arg14) (ix2 (i 1) k)) ((i 0).val % 1024)) (by decide +kernel) fun t hf y => ?_) (ix2 r n)
  obtain ⟨r, n, rfl⟩ : ∃ (r : Fin 2048) (n : Fin 1536), y = ix2 r n := ⟨y 0, y 1, (ix2_eta y).symm⟩
  rw [k_emb]
  blk_simp
  rw [after0_13]
  frame_out
  rw [conv_k]
  unfold k0_pay24
  simp only [x_blk, wk_blk, sk_blk, ck_blk]
  frame_out
  simp only [lin_k]
  rfl

/-- The value array after the run: the convolution of the projection's columns. -/
theorem v_arr (r : Fin 2048) (n : Fin 3072) : ((dats m 0 c).arrAt 14 cfg0.N : S2048x3072.Idx → EReal) (ix2 r n)
    = conv (W m c ⟨r.val / 1024, by omega⟩ n) (fun k => m ((c : Thread nD τ).loc main_arg15) (ix2 n k)) (r.val % 1024) := by
  refine congrFun ((dats m 0 c).arrAt_eq_of_covers 14 (fun i : S2048x3072.Idx => conv (W m c (⟨(i 0).val / 1024,
    by have h := (i 0).isLt; change (i 0).val < 2048 at h; omega⟩ : Fin 2) (i 1))
    (fun k => m ((c : Thread nD τ).loc main_arg15) (ix2 (i 1) k)) ((i 0).val % 1024)) (by decide +kernel) fun t hf y => ?_) (ix2 r n)
  obtain ⟨r, n, rfl⟩ : ∃ (r : Fin 2048) (n : Fin 3072), y = ix2 r n := ⟨y 0, y 1, (ix2_eta y).symm⟩
  rw [v_emb]
  blk_simp
  rw [after0_14]
  frame_out
  rw [conv_v]
  unfold k0_pay25
  simp only [x_blk, wv_blk, sv_blk, cv_blk]
  frame_out
  simp only [lin_v]
  rfl

/-- The gate array after the run: the projection itself. -/
theorem g_arr (r : Fin 2048) (n : Fin 3072) : ((dats m 0 c).arrAt 15 cfg0.N : S2048x3072.Idx → EReal) (ix2 r n)
    = Gt m c ⟨r.val / 1024, by omega⟩ n ⟨r.val % 1024, by omega⟩ := by
  refine congrFun ((dats m 0 c).arrAt_eq_of_covers 15 (fun i : S2048x3072.Idx => Gt m c (⟨(i 0).val / 1024,
    by have h := (i 0).isLt; change (i 0).val < 2048 at h; omega⟩ : Fin 2) (i 1) ⟨(i 0).val % 1024, by omega⟩)
    (by decide +kernel) fun t hf y => ?_) (ix2 r n)
  obtain ⟨r, n, rfl⟩ : ∃ (r : Fin 2048) (n : Fin 3072), y = ix2 r n := ⟨y 0, y 1, (ix2_eta y).symm⟩
  rw [g_emb]
  blk_simp
  rw [after0_15]
  frame_out
  rw [lin_g]
  simp only [x_blk, wg_blk, sg_blk]
  rfl

/-- The query's tail after the run: the last three entries of the projection's columns. -/
theorem tq_arr (b : Fin 2) (j : Fin 3) (n : Fin 1536) : ((dats m 0 c).arrAt 16 cfg0.N : S2x3x1536.Idx → EReal) (ix3 b j n)
    = Q m c b n ⟨1021 + j.val, by omega⟩ := by
  refine congrFun ((dats m 0 c).arrAt_eq_of_covers 16 (fun i : S2x3x1536.Idx => Q m c (i 0) (i 2) ⟨1021 + (i 1).val,
    by have h := (i 1).isLt; change (i 1).val < 3 at h; omega⟩)
    (by decide +kernel) fun t hf y => ?_) (ix3 b j n)
  obtain ⟨b, j, n, rfl⟩ : ∃ (b : Fin 2) (j : Fin 3) (n : Fin 1536), y = ix3 b j n := ⟨y 0, y 1, y 2, (ix3_eta y).symm⟩
  rw [tq_emb]
  blk_simp
  rw [after0_16]
  frame_out
  rw [tail_q]
  unfold k0_pay23
  simp only [x_blk, wq_blk, sq_blk]
  frame_out
  rw [lin_q]
  rfl

/-- The key's tail after the run: the last three entries of the projection's columns. -/
theorem tk_arr (b : Fin 2) (j : Fin 3) (n : Fin 1536) : ((dats m 0 c).arrAt 17 cfg0.N : S2x3x1536.Idx → EReal) (ix3 b j n)
    = K m c b n ⟨1021 + j.val, by omega⟩ := by
  refine congrFun ((dats m 0 c).arrAt_eq_of_covers 17 (fun i : S2x3x1536.Idx => K m c (i 0) (i 2) ⟨1021 + (i 1).val,
    by have h := (i 1).isLt; change (i 1).val < 3 at h; omega⟩)
    (by decide +kernel) fun t hf y => ?_) (ix3 b j n)
  obtain ⟨b, j, n, rfl⟩ : ∃ (b : Fin 2) (j : Fin 3) (n : Fin 1536), y = ix3 b j n := ⟨y 0, y 1, y 2, (ix3_eta y).symm⟩
  rw [tk_emb]
  blk_simp
  rw [after0_17]
  frame_out
  rw [tail_k]
  unfold k0_pay24
  simp only [x_blk, wk_blk, sk_blk]
  frame_out
  rw [lin_k]
  rfl

/-- The value's tail after the run: the last three entries of the projection's columns. -/
theorem tv_arr (b : Fin 2) (j : Fin 3) (n : Fin 3072) : ((dats m 0 c).arrAt 18 cfg0.N : S2x3x3072.Idx → EReal) (ix3 b j n)
    = W m c b n ⟨1021 + j.val, by omega⟩ := by
  refine congrFun ((dats m 0 c).arrAt_eq_of_covers 18 (fun i : S2x3x3072.Idx => W m c (i 0) (i 2) ⟨1021 + (i 1).val,
    by have h := (i 1).isLt; change (i 1).val < 3 at h; omega⟩)
    (by decide +kernel) fun t hf y => ?_) (ix3 b j n)
  obtain ⟨b, j, n, rfl⟩ : ∃ (b : Fin 2) (j : Fin 3) (n : Fin 3072), y = ix3 b j n := ⟨y 0, y 1, y 2, (ix3_eta y).symm⟩
  rw [tv_emb]
  blk_simp
  rw [after0_18]
  frame_out
  rw [tail_v]
  unfold k0_pay25
  simp only [x_blk, wv_blk, sv_blk]
  frame_out
  rw [lin_v]
  rfl

end Cert.ProjectReferenceIdeal.RefValue
-- ==== Proof.ProjVal.lean ====
module

public import proofs.«01_k».proof.Proof.ProjAt
public import proofs.«01_k».proof.Proof.ProjBlocks
public import proofs.«01_k».proof.Proof.ProjRef

/-! What every grid point of the projection leaves is the reference's value in the point's columns. -/

@[expose] public section
set_option maxRecDepth 16384
noncomputable section
namespace Cert.ProjectIdeal.Val
open Cert.ProjectIdeal Cert.ProjectIdeal.Gen Idealize.ShloMosaic
open Idealize.ShloMosaic.TcCoe Idealize.SL.Sem
open Cert.Factor Cert.Conv Cert.ProjectIdeal.Wdq Cert.ProjectIdeal.Lin Cert.ProjectIdeal.ConvOut Cert.ProjectIdeal.At Cert.ProjectIdeal.Blocks
variable (m : (ℓ : Loc nD τ sig) → Buf (Elt Ideal) ℓ) (c : Dev nD)

/-- Batch `b`'s rows against row `q` of point `t`'s weights. -/
def dotAt (t : Fin cfg0.N) (b : Fin 2) (q : Fin 1536) (s : Fin 1024) : EReal :=
  ∑ k : Fin 2048, (show EReal from iblk m c 0 t (ix2 (⟨b.val * 1024 + s.val, by omega⟩ : Fin 2048) k))
    * wF (iblk m c 1 t) (iblk m c 2 t) (iblk m c 3 t) (iblk m c 4 t) (iblk m c 5 t) (iblk m c 6 t) (iblk m c 7 t) (iblk m c 8 t) (ix2 q k)

/-- The product's array holds a batch's rows with three zeros before them. -/
theorem past_at (t : Fin cfg0.N) (b : Fin 2) (q : Fin 1536) (hq : q.val < 1024) (u : ℕ) (hu : u < 1027) {p row lane : ℕ}
    (hp : p = q.val / 128) (hr : row = b.val * 1032 + 5 + u) (hl : lane = q.val % 128) :
    at3 (linAt m c t) p row lane = past (dotAt m c t b q) u := by
  rw [at3_eq _ (⟨q.val / 128, by omega⟩ : Fin 8) (⟨b.val * 1032 + 5 + u, by omega⟩ : Fin 2064) (⟨q.val % 128, by omega⟩ : Fin 128) hp hr hl]
  unfold past
  by_cases h : 3 ≤ u
  · rw [dif_pos ⟨h, hu⟩]
    exact (lin_eq _ _ _ _ _ _ _ _ _ _ (⟨b.val * 1024 + (u - 3), by omega⟩ : Fin 2048) q
      (by show b.val * 1032 + 5 + u = (b.val * 1024 + (u - 3)) / 1024 * 1032 + 8 + (b.val * 1024 + (u - 3)) % 1024; omega)
      (by show q.val = q.val / 128 * 128 + q.val % 128; omega)).symm
  · rw [dif_neg (fun e => h e.1)]
    exact lin_pad _ _ _ _ _ _ _ _ _ _ (by show (b.val * 1032 + 5 + u) % 1032 < 8; omega)

/-- The stored convolution is the causal convolution of the product's rows. -/
theorem conv_at {N : ℕ} (t : Fin cfg0.N) (w : Vec Ideal ⟨2, ![4, N]⟩ .f32) (P : ℕ) (r : Fin 2048) (n : Fin N) (q : Fin 1536) (hq : q.val = P * 128 + n.val)
    (h : q.val < 1024) : cOut (linAt m c t) w P r n
      = conv (dotAt m c t ⟨r.val / 1024, by omega⟩ q) (fun i => w (ix2 i n)) (r.val % 1024) := by
  unfold cOut conv
  rw [past_at m c t ⟨r.val / 1024, by omega⟩ q h (r.val % 1024) (by omega) (by omega) (by show _ = r.val / 1024 * 1032 + 5 + _; omega) (by omega),
    past_at m c t ⟨r.val / 1024, by omega⟩ q h (r.val % 1024 + 1) (by omega) (by omega) (by show _ = r.val / 1024 * 1032 + 5 + _; omega) (by omega),
    past_at m c t ⟨r.val / 1024, by omega⟩ q h (r.val % 1024 + 2) (by omega) (by omega) (by show _ = r.val / 1024 * 1032 + 5 + _; omega) (by omega),
    past_at m c t ⟨r.val / 1024, by omega⟩ q h (r.val % 1024 + 3) (by omega) (by omega) (by show _ = r.val / 1024 * 1032 + 5 + _; omega) (by omega)]

/-- The stored tail is the product's last three rows. -/
theorem tail_at (t : Fin cfg0.N) (P n : ℕ) (b : Fin 2) (j : Fin 3) (q : Fin 1536) (hq : q.val = P * 128 + n) (h : q.val < 1024) :
    tOut (linAt m c t) P b.val j.val n = dotAt m c t b q ⟨1021 + j.val, by omega⟩ := by
  unfold tOut
  rw [past_at m c t b q h (1024 + j.val) (by omega) (by omega) (by omega) (by omega)]
  unfold past
  rw [dif_pos (by omega)]
  congr 2
  omega

/-- Rows 0 to 255 of a point's weights are the query's. -/
theorem dot_q (t : Fin cfg0.N) (b : Fin 2) (q : Fin 1536) (n : Fin 1536) (h : 0 ≤ q.val ∧ q.val < 256) (hn : n.val = t.val * 256 + (q.val - 0)) :
    dotAt m c t b q = Cert.ProjectReferenceIdeal.RefValue.lin (m ((c : Thread nD τ).loc main_arg0)) (m ((c : Thread nD τ).loc main_arg1))
      (m ((c : Thread nD τ).loc main_arg2)) b n := by
  funext s
  unfold dotAt Cert.ProjectReferenceIdeal.RefValue.lin entry
  refine Finset.sum_congr rfl fun k _ => ?_
  have hb : (⟨(b.val * 1024 + s.val) / 1024, by omega⟩ : Fin 2) = b := Fin.ext (by show (b.val * 1024 + s.val) / 1024 = b.val; omega)
  have hs : (⟨(b.val * 1024 + s.val) % 1024, by omega⟩ : Fin 1024) = s := Fin.ext (by show (b.val * 1024 + s.val) % 1024 = s.val; omega)
  have hr : (⟨t.val * 256 + (q.val), by have := lt t; omega⟩ : Fin 1536) = n := Fin.ext (by show t.val * 256 + (q.val) = n.val; omega)
  show _ * wAt _ _ _ _ _ _ _ _ q k = _
  unfold wAt
  rw [dif_pos (by omega), x_blk, wq_blk, sq_blk]
  simp only [hb, hs, hr]

/-- Rows 256 to 511 of a point's weights are the key's. -/
theorem dot_k (t : Fin cfg0.N) (b : Fin 2) (q : Fin 1536) (n : Fin 1536) (h : 256 ≤ q.val ∧ q.val < 512) (hn : n.val = t.val * 256 + (q.val - 256)) :
    dotAt m c t b q = Cert.ProjectReferenceIdeal.RefValue.lin (m ((c : Thread nD τ).loc main_arg0)) (m ((c : Thread nD τ).loc main_arg3))
      (m ((c : Thread nD τ).loc main_arg4)) b n := by
  funext s
  unfold dotAt Cert.ProjectReferenceIdeal.RefValue.lin entry
  refine Finset.sum_congr rfl fun k _ => ?_
  have hb : (⟨(b.val * 1024 + s.val) / 1024, by omega⟩ : Fin 2) = b := Fin.ext (by show (b.val * 1024 + s.val) / 1024 = b.val; omega)
  have hs : (⟨(b.val * 1024 + s.val) % 1024, by omega⟩ : Fin 1024) = s := Fin.ext (by show (b.val * 1024 + s.val) % 1024 = s.val; omega)
  have hr : (⟨t.val * 256 + (q.val - 256), by have := lt t; omega⟩ : Fin 1536) = n := Fin.ext (by show t.val * 256 + (q.val - 256) = n.val; omega)
  show _ * wAt _ _ _ _ _ _ _ _ q k = _
  unfold wAt
  rw [dif_neg (by omega), dif_pos (by omega), x_blk, wk_blk, sk_blk]
  simp only [hb, hs, hr]

/-- Rows 512 to 1023 of a point's weights are the value's. -/
theorem dot_v (t : Fin cfg0.N) (b : Fin 2) (q : Fin 1536) (n : Fin 3072) (h : 512 ≤ q.val ∧ q.val < 1024) (hn : n.val = t.val * 512 + (q.val - 512)) :
    dotAt m c t b q = Cert.ProjectReferenceIdeal.RefValue.lin (m ((c : Thread nD τ).loc main_arg0)) (m ((c : Thread nD τ).loc main_arg5))
      (m ((c : Thread nD τ).loc main_arg6)) b n := by
  funext s
  unfold dotAt Cert.ProjectReferenceIdeal.RefValue.lin entry
  refine Finset.sum_congr rfl fun k _ => ?_
  have hb : (⟨(b.val * 1024 + s.val) / 1024, by omega⟩ : Fin 2) = b := Fin.ext (by show (b.val * 1024 + s.val) / 1024 = b.val; omega)
  have hs : (⟨(b.val * 1024 + s.val) % 1024, by omega⟩ : Fin 1024) = s := Fin.ext (by show (b.val * 1024 + s.val) % 1024 = s.val; omega)
  have hr : (⟨t.val * 512 + (q.val - 512), by have := lt t; omega⟩ : Fin 3072) = n := Fin.ext (by show t.val * 512 + (q.val - 512) = n.val; omega)
  show _ * wAt _ _ _ _ _ _ _ _ q k = _
  unfold wAt
  rw [dif_neg (by omega), dif_neg (by omega), dif_pos (by omega), x_blk, wv_blk, sv_blk]
  simp only [hb, hs, hr]

/-- Rows 1024 to 1535 of a point's weights are the gate's. -/
theorem dot_g (t : Fin cfg0.N) (b : Fin 2) (q : Fin 1536) (n : Fin 3072) (h : 1024 ≤ q.val ∧ q.val < 1536) (hn : n.val = t.val * 512 + (q.val - 1024)) :
    dotAt m c t b q = Cert.ProjectReferenceIdeal.RefValue.lin (m ((c : Thread nD τ).loc main_arg0)) (m ((c : Thread nD τ).loc main_arg7))
      (m ((c : Thread nD τ).loc main_arg8)) b n := by
  funext s
  unfold dotAt Cert.ProjectReferenceIdeal.RefValue.lin entry
  refine Finset.sum_congr rfl fun k _ => ?_
  have hb : (⟨(b.val * 1024 + s.val) / 1024, by omega⟩ : Fin 2) = b := Fin.ext (by show (b.val * 1024 + s.val) / 1024 = b.val; omega)
  have hs : (⟨(b.val * 1024 + s.val) % 1024, by omega⟩ : Fin 1024) = s := Fin.ext (by show (b.val * 1024 + s.val) % 1024 = s.val; omega)
  have hr : (⟨t.val * 512 + (q.val - 1024), by have := lt t; omega⟩ : Fin 3072) = n := Fin.ext (by show t.val * 512 + (q.val - 1024) = n.val; omega)
  show _ * wAt _ _ _ _ _ _ _ _ q k = _
  unfold wAt
  rw [dif_neg (by omega), dif_neg (by omega), dif_neg (by omega), x_blk, wg_blk, sg_blk]
  simp only [hb, hs, hr]

/-- A point's queries are the reference's. -/
theorem q_point (t : Fin cfg0.N) (r : Fin 2048) (k : Fin 256) (n : Fin 1536) (hn : n.val = t.val * 256 + k.val) :
    cOut (linAt m c t) (iblk m c 11 t) 0 r k
      = conv (Cert.ProjectReferenceIdeal.RefValue.lin (m ((c : Thread nD τ).loc main_arg0)) (m ((c : Thread nD τ).loc main_arg1))
        (m ((c : Thread nD τ).loc main_arg2)) ⟨r.val / 1024, by omega⟩ n) (fun i => m ((c : Thread nD τ).loc main_arg13) (ix2 n i)) (r.val % 1024) := by
  have hr : (⟨t.val * 256 + k.val, by have := lt t; omega⟩ : Fin 1536) = n := Fin.ext hn.symm
  rw [conv_at m c t _ 0 r k (⟨0 + k.val, by omega⟩ : Fin 1536) (by show 0 + k.val = _; omega) (by show 0 + k.val < 1024; omega),
    dot_q m c t _ _ n (by show 0 ≤ 0 + k.val ∧ 0 + k.val < 256; omega) (by show n.val = t.val * 256 + (0 + k.val - 0); omega)]
  simp only [cq_blk, hr]

/-- A point's tail of the queries is the reference's. -/
theorem tq_point (t : Fin cfg0.N) (b : Fin 2) (j : Fin 3) (k : Fin 256) (n : Fin 1536) (hn : n.val = t.val * 256 + k.val) :
    tOut (linAt m c t) 0 b.val j.val k.val = Cert.ProjectReferenceIdeal.RefValue.lin (m ((c : Thread nD τ).loc main_arg0)) (m ((c : Thread nD τ).loc main_arg1))
        (m ((c : Thread nD τ).loc main_arg2)) b n ⟨1021 + j.val, by omega⟩ := by
  rw [tail_at m c t 0 k.val b j (⟨0 + k.val, by omega⟩ : Fin 1536) (by show 0 + k.val = _; omega) (by show 0 + k.val < 1024; omega),
    dot_q m c t _ _ n (by show 0 ≤ 0 + k.val ∧ 0 + k.val < 256; omega) (by show n.val = t.val * 256 + (0 + k.val - 0); omega)]

/-- A point's keys are the reference's. -/
theorem k_point (t : Fin cfg0.N) (r : Fin 2048) (k : Fin 256) (n : Fin 1536) (hn : n.val = t.val * 256 + k.val) :
    cOut (linAt m c t) (iblk m c 12 t) 2 r k
      = conv (Cert.ProjectReferenceIdeal.RefValue.lin (m ((c : Thread nD τ).loc main_arg0)) (m ((c : Thread nD τ).loc main_arg3))
        (m ((c : Thread nD τ).loc main_arg4)) ⟨r.val / 1024, by omega⟩ n) (fun i => m ((c : Thread nD τ).loc main_arg14) (ix2 n i)) (r.val % 1024) := by
  have hr : (⟨t.val * 256 + k.val, by have := lt t; omega⟩ : Fin 1536) = n := Fin.ext hn.symm
  rw [conv_at m c t _ 2 r k (⟨256 + k.val, by omega⟩ : Fin 1536) (by show 256 + k.val = _; omega) (by show 256 + k.val < 1024; omega),
    dot_k m c t _ _ n (by show 256 ≤ 256 + k.val ∧ 256 + k.val < 512; omega) (by show n.val = t.val * 256 + (256 + k.val - 256); omega)]
  simp only [ck_blk, hr]

/-- A point's tail of the keys is the reference's. -/
theorem tk_point (t : Fin cfg0.N) (b : Fin 2) (j : Fin 3) (k : Fin 256) (n : Fin 1536) (hn : n.val = t.val * 256 + k.val) :
    tOut (linAt m c t) 2 b.val j.val k.val = Cert.ProjectReferenceIdeal.RefValue.lin (m ((c : Thread nD τ).loc main_arg0)) (m ((c : Thread nD τ).loc main_arg3))
        (m ((c : Thread nD τ).loc main_arg4)) b n ⟨1021 + j.val, by omega⟩ := by
  rw [tail_at m c t 2 k.val b j (⟨256 + k.val, by omega⟩ : Fin 1536) (by show 256 + k.val = _; omega) (by show 256 + k.val < 1024; omega),
    dot_k m c t _ _ n (by show 256 ≤ 256 + k.val ∧ 256 + k.val < 512; omega) (by show n.val = t.val * 256 + (256 + k.val - 256); omega)]

/-- A point's values are the reference's. -/
theorem v_point (t : Fin cfg0.N) (r : Fin 2048) (k : Fin 512) (n : Fin 3072) (hn : n.val = t.val * 512 + k.val) :
    cOut (linAt m c t) (iblk m c 13 t) 4 r k
      = conv (Cert.ProjectReferenceIdeal.RefValue.lin (m ((c : Thread nD τ).loc main_arg0)) (m ((c : Thread nD τ).loc main_arg5))
        (m ((c : Thread nD τ).loc main_arg6)) ⟨r.val / 1024, by omega⟩ n) (fun i => m ((c : Thread nD τ).loc main_arg15) (ix2 n i)) (r.val % 1024) := by
  have hr : (⟨t.val * 512 + k.val, by have := lt t; omega⟩ : Fin 3072) = n := Fin.ext hn.symm
  rw [conv_at m c t _ 4 r k (⟨512 + k.val, by omega⟩ : Fin 1536) (by show 512 + k.val = _; omega) (by show 512 + k.val < 1024; omega),
    dot_v m c t _ _ n (by show 512 ≤ 512 + k.val ∧ 512 + k.val < 1024; omega) (by show n.val = t.val * 512 + (512 + k.val - 512); omega)]
  simp only [cv_blk, hr]

/-- A point's tail of the values is the reference's. -/
theorem tv_point (t : Fin cfg0.N) (b : Fin 2) (j : Fin 3) (k : Fin 512) (n : Fin 3072) (hn : n.val = t.val * 512 + k.val) :
    tOut (linAt m c t) 4 b.val j.val k.val = Cert.ProjectReferenceIdeal.RefValue.lin (m ((c : Thread nD τ).loc main_arg0)) (m ((c : Thread nD τ).loc main_arg5))
        (m ((c : Thread nD τ).loc main_arg6)) b n ⟨1021 + j.val, by omega⟩ := by
  rw [tail_at m c t 4 k.val b j (⟨512 + k.val, by omega⟩ : Fin 1536) (by show 512 + k.val = _; omega) (by show 512 + k.val < 1024; omega),
    dot_v m c t _ _ n (by show 512 ≤ 512 + k.val ∧ 512 + k.val < 1024; omega) (by show n.val = t.val * 512 + (512 + k.val - 512); omega)]

/-- A point's gate is the reference's. -/
theorem g_point (t : Fin cfg0.N) (r : Fin 2048) (k : Fin 512) (n : Fin 3072) (hn : n.val = t.val * 512 + k.val) :
    gOut (iblk m c 0 t) (wF (iblk m c 1 t) (iblk m c 2 t) (iblk m c 3 t) (iblk m c 4 t) (iblk m c 5 t) (iblk m c 6 t) (iblk m c 7 t) (iblk m c 8 t)) r k
      = Cert.ProjectReferenceIdeal.RefValue.lin (m ((c : Thread nD τ).loc main_arg0)) (m ((c : Thread nD τ).loc main_arg7))
        (m ((c : Thread nD τ).loc main_arg8)) ⟨r.val / 1024, by omega⟩ n ⟨r.val % 1024, by omega⟩ := by
  rw [← dot_g m c t _ (⟨1024 + k.val, by omega⟩ : Fin 1536) n (by show 1024 ≤ 1024 + k.val ∧ 1024 + k.val < 1536; omega)
    (by show n.val = t.val * 512 + (1024 + k.val - 1024); omega)]
  have hr : (⟨r.val / 1024 * 1024 + r.val % 1024, by omega⟩ : Fin 2048) = r := Fin.ext (by show r.val / 1024 * 1024 + r.val % 1024 = r.val; omega)
  unfold gOut dotAt
  simp only [hr]

end Cert.ProjectIdeal.Val
-- ==== Proof.ProjArrays.lean ====
module

public import proofs.«01_k».proof.Proof.ProjVal

/-! The projection's result arrays, entry by entry: the reference's values of the arguments. -/

@[expose] public section
set_option maxRecDepth 16384
noncomputable section
namespace Cert.ProjectIdeal.Arrays
open Cert.ProjectIdeal Cert.ProjectIdeal.Gen Idealize.ShloMosaic
open Idealize.ShloMosaic.TcCoe Idealize.SL.Sem
open Cert.Factor Cert.Conv Cert.ProjectIdeal.ConvOut Cert.ProjectIdeal.At Cert.ProjectIdeal.Val
open Cert.ProjectReferenceIdeal.RefValue (lin)
variable (m : (ℓ : Loc nD τ sig) → Buf (Elt Ideal) ℓ) (c : Dev nD)

/-- The queries. -/
theorem q_eq (r : Fin 2048) (n : Fin 1536) : Value.G14 m c (ix2 r n)
    = conv (lin (m ((c : Thread nD τ).loc main_arg0)) (m ((c : Thread nD τ).loc main_arg1)) (m ((c : Thread nD τ).loc main_arg2)) ⟨r.val / 1024, by omega⟩ n)
      (fun i => m ((c : Thread nD τ).loc main_arg13) (ix2 n i)) (r.val % 1024) := by
  have hp : Value.pt14Of (ix2 r n) = n.val / 256 := by
    show 6 * (r.val / 2048 - 0) + 1 * (n.val / 256 - 0) = _
    omega
  have hN : Value.pt14Of (ix2 r n) < cfg0.N := lt_of_lt_of_eq (by rw [hp]; omega : _ < 6) N_0.symm
  have hL : Value.loc14Of (ix2 r n) = ix2 r ⟨n.val % 256, Nat.mod_lt _ (by decide)⟩ := by
    funext a
    match a with
    | ⟨0, _⟩ => exact Fin.ext (Nat.mod_eq_of_lt r.isLt)
    | ⟨1, _⟩ => rfl
  unfold Value.G14
  rw [dif_pos hN, hL, ← Value.outsAt0_sweep]
  refine (congrFun (q_at m c ⟨Value.pt14Of (ix2 r n), hN⟩) _).trans ?_
  exact q_point m c ⟨Value.pt14Of (ix2 r n), hN⟩ r ⟨n.val % 256, Nat.mod_lt _ (by decide)⟩ n
    (by show n.val = Value.pt14Of (ix2 r n) * 256 + n.val % 256; rw [hp]; omega)

/-- The keys. -/
theorem k_eq (r : Fin 2048) (n : Fin 1536) : Value.G15 m c (ix2 r n)
    = conv (lin (m ((c : Thread nD τ).loc main_arg0)) (m ((c : Thread nD τ).loc main_arg3)) (m ((c : Thread nD τ).loc main_arg4)) ⟨r.val / 1024, by omega⟩ n)
      (fun i => m ((c : Thread nD τ).loc main_arg14) (ix2 n i)) (r.val % 1024) := by
  have hp : Value.pt15Of (ix2 r n) = n.val / 256 := by
    show 6 * (r.val / 2048 - 0) + 1 * (n.val / 256 - 0) = _
    omega
  have hN : Value.pt15Of (ix2 r n) < cfg0.N := lt_of_lt_of_eq (by rw [hp]; omega : _ < 6) N_0.symm
  have hL : Value.loc15Of (ix2 r n) = ix2 r ⟨n.val % 256, Nat.mod_lt _ (by decide)⟩ := by
    funext a
    match a with
    | ⟨0, _⟩ => exact Fin.ext (Nat.mod_eq_of_lt r.isLt)
    | ⟨1, _⟩ => rfl
  unfold Value.G15
  rw [dif_pos hN, hL, ← Value.outsAt0_sweep]
  refine (congrFun (k_at m c ⟨Value.pt15Of (ix2 r n), hN⟩) _).trans ?_
  exact k_point m c ⟨Value.pt15Of (ix2 r n), hN⟩ r ⟨n.val % 256, Nat.mod_lt _ (by decide)⟩ n
    (by show n.val = Value.pt15Of (ix2 r n) * 256 + n.val % 256; rw [hp]; omega)

/-- The values. -/
theorem v_eq (r : Fin 2048) (n : Fin 3072) : Value.G16 m c (ix2 r n)
    = conv (lin (m ((c : Thread nD τ).loc main_arg0)) (m ((c : Thread nD τ).loc main_arg5)) (m ((c : Thread nD τ).loc main_arg6)) ⟨r.val / 1024, by omega⟩ n)
      (fun i => m ((c : Thread nD τ).loc main_arg15) (ix2 n i)) (r.val % 1024) := by
  have hp : Value.pt16Of (ix2 r n) = n.val / 512 := by
    show 6 * (r.val / 2048 - 0) + 1 * (n.val / 512 - 0) = _
    omega
  have hN : Value.pt16Of (ix2 r n) < cfg0.N := lt_of_lt_of_eq (by rw [hp]; omega : _ < 6) N_0.symm
  have hL : Value.loc16Of (ix2 r n) = ix2 r ⟨n.val % 512, Nat.mod_lt _ (by decide)⟩ := by
    funext a
    match a with
    | ⟨0, _⟩ => exact Fin.ext (Nat.mod_eq_of_lt r.isLt)
    | ⟨1, _⟩ => rfl
  unfold Value.G16
  rw [dif_pos hN, hL, ← Value.outsAt0_sweep]
  refine (congrFun (v_at m c ⟨Value.pt16Of (ix2 r n), hN⟩) _).trans ?_
  exact v_point m c ⟨Value.pt16Of (ix2 r n), hN⟩ r ⟨n.val % 512, Nat.mod_lt _ (by decide)⟩ n
    (by show n.val = Value.pt16Of (ix2 r n) * 512 + n.val % 512; rw [hp]; omega)

/-- The gate. -/
theorem g_eq (r : Fin 2048) (n : Fin 3072) : Value.G17 m c (ix2 r n)
    = lin (m ((c : Thread nD τ).loc main_arg0)) (m ((c : Thread nD τ).loc main_arg7)) (m ((c : Thread nD τ).loc main_arg8)) ⟨r.val / 1024, by omega⟩ n ⟨r.val % 1024, by omega⟩ := by
  have hp : Value.pt17Of (ix2 r n) = n.val / 512 := by
    show 6 * (r.val / 2048 - 0) + 1 * (n.val / 512 - 0) = _
    omega
  have hN : Value.pt17Of (ix2 r n) < cfg0.N := lt_of_lt_of_eq (by rw [hp]; omega : _ < 6) N_0.symm
  have hL : Value.loc17Of (ix2 r n) = ix2 r ⟨n.val % 512, Nat.mod_lt _ (by decide)⟩ := by
    funext a
    match a with
    | ⟨0, _⟩ => exact Fin.ext (Nat.mod_eq_of_lt r.isLt)
    | ⟨1, _⟩ => rfl
  unfold Value.G17
  rw [dif_pos hN, hL, ← Value.outsAt0_sweep]
  refine (congrFun (g_at m c ⟨Value.pt17Of (ix2 r n), hN⟩) _).trans ?_
  exact g_point m c ⟨Value.pt17Of (ix2 r n), hN⟩ r ⟨n.val % 512, Nat.mod_lt _ (by decide)⟩ n
    (by show n.val = Value.pt17Of (ix2 r n) * 512 + n.val % 512; rw [hp]; omega)

/-- The tail of the queries. -/
theorem tq_eq (b : Fin 2) (j : Fin 3) (n : Fin 1536) : Value.G19 m c (ix3 b j n)
    = lin (m ((c : Thread nD τ).loc main_arg0)) (m ((c : Thread nD τ).loc main_arg1)) (m ((c : Thread nD τ).loc main_arg2)) b n ⟨1021 + j.val, by omega⟩ := by
  have hp : Value.pt19Of (ix3 b j n) = n.val / 256 := by
    show 6 * (b.val / 2 - 0) + 6 * (j.val / 3 - 0) + 1 * (n.val / 256 - 0) = _
    omega
  have hN : Value.pt19Of (ix3 b j n) < cfg0.N := lt_of_lt_of_eq (by rw [hp]; omega : _ < 6) N_0.symm
  have hL : Value.loc19Of (ix3 b j n) = ix3 b j ⟨n.val % 256, Nat.mod_lt _ (by decide)⟩ := by
    funext a
    match a with
    | ⟨0, _⟩ => exact Fin.ext (Nat.mod_eq_of_lt b.isLt)
    | ⟨1, _⟩ => exact Fin.ext (Nat.mod_eq_of_lt j.isLt)
    | ⟨2, _⟩ => rfl
  unfold Value.G19
  rw [dif_pos hN, hL, ← Value.outsAt0_sweep]
  refine (congrFun (tq_at m c ⟨Value.pt19Of (ix3 b j n), hN⟩) _).trans ?_
  exact tq_point m c ⟨Value.pt19Of (ix3 b j n), hN⟩ b j ⟨n.val % 256, Nat.mod_lt _ (by decide)⟩ n
    (by show n.val = Value.pt19Of (ix3 b j n) * 256 + n.val % 256; rw [hp]; omega)

/-- The tail of the keys. -/
theorem tk_eq (b : Fin 2) (j : Fin 3) (n : Fin 1536) : Value.G20 m c (ix3 b j n)
    = lin (m ((c : Thread nD τ).loc main_arg0)) (m ((c : Thread nD τ).loc main_arg3)) (m ((c : Thread nD τ).loc main_arg4)) b n ⟨1021 + j.val, by omega⟩ := by
  have hp : Value.pt20Of (ix3 b j n) = n.val / 256 := by
    show 6 * (b.val / 2 - 0) + 6 * (j.val / 3 - 0) + 1 * (n.val / 256 - 0) = _
    omega
  have hN : Value.pt20Of (ix3 b j n) < cfg0.N := lt_of_lt_of_eq (by rw [hp]; omega : _ < 6) N_0.symm
  have hL : Value.loc20Of (ix3 b j n) = ix3 b j ⟨n.val % 256, Nat.mod_lt _ (by decide)⟩ := by
    funext a
    match a with
    | ⟨0, _⟩ => exact Fin.ext (Nat.mod_eq_of_lt b.isLt)
    | ⟨1, _⟩ => exact Fin.ext (Nat.mod_eq_of_lt j.isLt)
    | ⟨2, _⟩ => rfl
  unfold Value.G20
  rw [dif_pos hN, hL, ← Value.outsAt0_sweep]
  refine (congrFun (tk_at m c ⟨Value.pt20Of (ix3 b j n), hN⟩) _).trans ?_
  exact tk_point m c ⟨Value.pt20Of (ix3 b j n), hN⟩ b j ⟨n.val % 256, Nat.mod_lt _ (by decide)⟩ n
    (by show n.val = Value.pt20Of (ix3 b j n) * 256 + n.val % 256; rw [hp]; omega)

/-- The tail of the values. -/
theorem tv_eq (b : Fin 2) (j : Fin 3) (n : Fin 3072) : Value.G21 m c (ix3 b j n)
    = lin (m ((c : Thread nD τ).loc main_arg0)) (m ((c : Thread nD τ).loc main_arg5)) (m ((c : Thread nD τ).loc main_arg6)) b n ⟨1021 + j.val, by omega⟩ := by
  have hp : Value.pt21Of (ix3 b j n) = n.val / 512 := by
    show 6 * (b.val / 2 - 0) + 6 * (j.val / 3 - 0) + 1 * (n.val / 512 - 0) = _
    omega
  have hN : Value.pt21Of (ix3 b j n) < cfg0.N := lt_of_lt_of_eq (by rw [hp]; omega : _ < 6) N_0.symm
  have hL : Value.loc21Of (ix3 b j n) = ix3 b j ⟨n.val % 512, Nat.mod_lt _ (by decide)⟩ := by
    funext a
    match a with
    | ⟨0, _⟩ => exact Fin.ext (Nat.mod_eq_of_lt b.isLt)
    | ⟨1, _⟩ => exact Fin.ext (Nat.mod_eq_of_lt j.isLt)
    | ⟨2, _⟩ => rfl
  unfold Value.G21
  rw [dif_pos hN, hL, ← Value.outsAt0_sweep]
  refine (congrFun (tv_at m c ⟨Value.pt21Of (ix3 b j n), hN⟩) _).trans ?_
  exact tv_point m c ⟨Value.pt21Of (ix3 b j n), hN⟩ b j ⟨n.val % 512, Nat.mod_lt _ (by decide)⟩ n
    (by show n.val = Value.pt21Of (ix3 b j n) * 512 + n.val % 512; rw [hp]; omega)

end Cert.ProjectIdeal.Arrays
-- ==== Proof.lean ====
module

public import proofs.«01_k».proof.Defs
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Skeleton
public import proofs.«01_k».proof.Proof.Gen.ProjectReferenceIdeal.Launch
public import proofs.«01_k».proof.Proof.Gen.ProjectReferenceIdeal.Points
public import proofs.«01_k».proof.Proof.Gen.ProjectReferenceIdeal.Frame
public import proofs.«01_k».proof.Proof.Gen.ProjectIdeal.Value
public import proofs.«01_k».proof.Proof.Gen.ProjectReferenceIdeal.Value
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputReferenceIdeal
public import proofs.«01_k».proof.Proof.Gen.OutputReferenceIdeal.Skeleton
public import proofs.«01_k».proof.Proof.Gen.OutputReferenceIdeal.Launch
public import proofs.«01_k».proof.Proof.Gen.OutputReferenceIdeal.Points
public import proofs.«01_k».proof.Proof.Gen.OutputReferenceIdeal.Frame
public import proofs.«01_k».proof.Proof.Gen.OutputReferenceIdeal.Value
public import proofs.«01_k».proof.Proof.Gen.OutputIdeal.Value
public import proofs.«01_k».proof.Proof.Equation
public import proofs.«01_k».proof.Proof.ProjArrays
public import Idealize.ShloMosaic.Adequacy
public import Idealize.ShloMosaic.Init

@[expose] public section

noncomputable section

namespace Cert.Proof

open Idealize.ShloMosaic Idealize.SL.Sem

/-- The output call and its reference, from equal arguments, end with equal results. -/
theorem algebraic_out [Cert.OutputIdeal.Facts] [Cert.OutputReferenceIdeal.Facts] :
    Cert.algebraic_OutputIdeal_OutputReferenceIdeal := by
  intro m g m' g' _ hagree
  refine ⟨fun c => Cert.OutputIdeal.Value.G5 m c, fun c => Cert.OutputIdeal.Value.G6 m c, ?_, ?_⟩
  · exact Cert.OutputIdeal.Value.run m g
  · refine (θ_run Cert.OutputReferenceIdeal.defs _ _).mono (fun r h c => ?_) (Cert.OutputReferenceIdeal.Value.run m' g')
    obtain ⟨hy, ho, hargs⟩ := h c
    obtain ⟨e0, e1, e2, e3, e4⟩ := hagree c
    refine ⟨hy.trans ?_, ho.trans ?_, hargs⟩
    · rw [e0, e1, e2, e3, e4]
      exact (Cert.Equation.y_eq m c).symm
    · rw [e0, e1, e2, e3, e4]
      exact (Cert.Equation.out_eq m c).symm

set_option maxHeartbeats 2000000 in
/-- The projections' call and its reference, from equal arguments, end with equal results. -/
theorem algebraic_project [Cert.ProjectIdeal.Facts] [Cert.ProjectReferenceIdeal.Facts] :
    Cert.algebraic_ProjectIdeal_ProjectReferenceIdeal := by
  intro m g m' g' _ hagree
  refine ⟨fun c => Cert.ProjectIdeal.Value.G14 m c, fun c => Cert.ProjectIdeal.Value.G15 m c, fun c => Cert.ProjectIdeal.Value.G16 m c, fun c => Cert.ProjectIdeal.Value.G17 m c, fun c => Cert.ProjectIdeal.Value.G19 m c, fun c => Cert.ProjectIdeal.Value.G20 m c, fun c => Cert.ProjectIdeal.Value.G21 m c, ?_, ?_⟩
  · refine (θ_run Cert.ProjectIdeal.defs _ _).mono (fun r h c => ?_) (Cert.ProjectIdeal.Value.run m g)
    obtain ⟨hq, hk, hv, hg, _, htq, htk, htv, hargs⟩ := h c
    exact ⟨hq, hk, hv, hg, htq, htk, htv, hargs⟩
  · refine (θ_run Cert.ProjectReferenceIdeal.defs _ _).mono (fun r h c => ?_) (Cert.ProjectReferenceIdeal.Value.run_blocks m' g')
    obtain ⟨hq, hk, hv, hg, htq, htk, htv, hargs⟩ := h c
    obtain ⟨e0, e1, e2, e3, e4, e5, e6, e7, e8, e9, e10, e11, e12, e13, e14, e15⟩ := hagree c
    refine ⟨hq.trans (funext fun i => ?_), hk.trans (funext fun i => ?_), hv.trans (funext fun i => ?_), hg.trans (funext fun i => ?_), htq.trans (funext fun i => ?_), htk.trans (funext fun i => ?_), htv.trans (funext fun i => ?_), hargs⟩
    · obtain ⟨r, n, rfl⟩ : ∃ (r : Fin 2048) (n : Fin 1536), i = ix2 r n := ⟨i 0, i 1, (ix2_eta i).symm⟩
      refine (Cert.ProjectReferenceIdeal.RefValue.q_arr m' c r n).trans ?_
      unfold Cert.ProjectReferenceIdeal.RefValue.Q
      rw [e0, e1, e2, e13]
      exact (Cert.ProjectIdeal.Arrays.q_eq m c r n).symm
    · obtain ⟨r, n, rfl⟩ : ∃ (r : Fin 2048) (n : Fin 1536), i = ix2 r n := ⟨i 0, i 1, (ix2_eta i).symm⟩
      refine (Cert.ProjectReferenceIdeal.RefValue.k_arr m' c r n).trans ?_
      unfold Cert.ProjectReferenceIdeal.RefValue.K
      rw [e0, e3, e4, e14]
      exact (Cert.ProjectIdeal.Arrays.k_eq m c r n).symm
    · obtain ⟨r, n, rfl⟩ : ∃ (r : Fin 2048) (n : Fin 3072), i = ix2 r n := ⟨i 0, i 1, (ix2_eta i).symm⟩
      refine (Cert.ProjectReferenceIdeal.RefValue.v_arr m' c r n).trans ?_
      unfold Cert.ProjectReferenceIdeal.RefValue.W
      rw [e0, e5, e6, e15]
      exact (Cert.ProjectIdeal.Arrays.v_eq m c r n).symm
    · obtain ⟨r, n, rfl⟩ : ∃ (r : Fin 2048) (n : Fin 3072), i = ix2 r n := ⟨i 0, i 1, (ix2_eta i).symm⟩
      refine (Cert.ProjectReferenceIdeal.RefValue.g_arr m' c r n).trans ?_
      unfold Cert.ProjectReferenceIdeal.RefValue.Gt
      rw [e0, e7, e8]
      exact (Cert.ProjectIdeal.Arrays.g_eq m c r n).symm
    · obtain ⟨b, j, n, rfl⟩ : ∃ (b : Fin 2) (j : Fin 3) (n : Fin 1536), i = ix3 b j n := ⟨i 0, i 1, i 2, (ix3_eta i).symm⟩
      refine (Cert.ProjectReferenceIdeal.RefValue.tq_arr m' c b j n).trans ?_
      unfold Cert.ProjectReferenceIdeal.RefValue.Q
      rw [e0, e1, e2]
      exact (Cert.ProjectIdeal.Arrays.tq_eq m c b j n).symm
    · obtain ⟨b, j, n, rfl⟩ : ∃ (b : Fin 2) (j : Fin 3) (n : Fin 1536), i = ix3 b j n := ⟨i 0, i 1, i 2, (ix3_eta i).symm⟩
      refine (Cert.ProjectReferenceIdeal.RefValue.tk_arr m' c b j n).trans ?_
      unfold Cert.ProjectReferenceIdeal.RefValue.K
      rw [e0, e3, e4]
      exact (Cert.ProjectIdeal.Arrays.tk_eq m c b j n).symm
    · obtain ⟨b, j, n, rfl⟩ : ∃ (b : Fin 2) (j : Fin 3) (n : Fin 3072), i = ix3 b j n := ⟨i 0, i 1, i 2, (ix3_eta i).symm⟩
      refine (Cert.ProjectReferenceIdeal.RefValue.tv_arr m' c b j n).trans ?_
      unfold Cert.ProjectReferenceIdeal.RefValue.W
      rw [e0, e5, e6]
      exact (Cert.ProjectIdeal.Arrays.tv_eq m c b j n).symm

/-- Every claim of the certificate. -/
theorem claim : Cert.Claim := ⟨Cert.Project.Gen.facts, Cert.ProjectIdeal.Gen.facts, Cert.ProjectReferenceIdeal.Gen.facts,
  Cert.Output.Gen.facts, Cert.OutputIdeal.Gen.facts, Cert.OutputReferenceIdeal.Gen.facts,
  fun m ρ _ => Cert.Project.Gen.frame m ρ,
  fun m ρ _ => Cert.ProjectIdeal.Gen.frame m ρ,
  fun m ρ _ => Cert.ProjectReferenceIdeal.Gen.frame m ρ,
  fun m ρ _ => Cert.Output.Gen.frame m ρ,
  fun m ρ _ => Cert.OutputIdeal.Gen.frame m ρ,
  fun m ρ _ => Cert.OutputReferenceIdeal.Gen.frame m ρ,
  trivial, algebraic_project, trivial, algebraic_out⟩

end Cert.Proof

end
